-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2x384x16384 : Shape := ⟨4, ![8, 2, 384, 16384]⟩
abbrev S8x2x384 : Shape := ⟨3, ![8, 2, 384]⟩
abbrev S2x384x16384 : Shape := ⟨3, ![2, 384, 16384]⟩
abbrev S16384 : Shape := ⟨1, ![16384]⟩
abbrev S8x768x16384 : Shape := ⟨3, ![8, 768, 16384]⟩
abbrev S768x16384 : Shape := ⟨2, ![768, 16384]⟩
abbrev S1x16384 : Shape := ⟨2, ![1, 16384]⟩
abbrev S2x384 : Shape := ⟨2, ![2, 384]⟩
abbrev S8x32x16384 : Shape := ⟨3, ![8, 32, 16384]⟩
abbrev S32x16384 : Shape := ⟨2, ![32, 16384]⟩
abbrev S8x16384 : Shape := ⟨2, ![8, 16384]⟩
abbrev S8x2x128 : Shape := ⟨3, ![8, 2, 128]⟩
abbrev S8x1x128 : Shape := ⟨3, ![8, 1, 128]⟩
abbrev S8x128 : Shape := ⟨2, ![8, 128]⟩
abbrev S32x128 : Shape := ⟨2, ![32, 128]⟩
abbrev S1x128 : Shape := ⟨2, ![1, 128]⟩
abbrev S32x256 : Shape := ⟨2, ![32, 256]⟩
abbrev S8x32x512 : Shape := ⟨3, ![8, 32, 512]⟩
abbrev S256x512 : Shape := ⟨2, ![256, 512]⟩
abbrev S32x512 : Shape := ⟨2, ![32, 512]⟩
abbrev S32 : Shape := ⟨1, ![32]⟩
abbrev S32x1 : Shape := ⟨2, ![32, 1]⟩
abbrev S4x8x128 : Shape := ⟨3, ![4, 8, 128]⟩
abbrev S128 : Shape := ⟨1, ![128]⟩
abbrev S1x384 : Shape := ⟨2, ![1, 384]⟩

abbrev nBuf : Space → Nat
  | .hbm => 14
  | .vmem => 18
  | .smem => 0
  | _ => 0

abbrev bufTy : (tb : Table) → Fin (tcTables nBuf tb) → BufTy
  | .hbm, ⟨0, _⟩ => ⟨S8x2x384x16384, .fp8e5m2⟩
  | .hbm, ⟨1, _⟩ => ⟨S8x2x384, .f32⟩
  | .hbm, ⟨2, _⟩ => ⟨S2x384x16384, .bf16⟩
  | .hbm, ⟨3, _⟩ => ⟨S16384, .f32⟩
  | .hbm, ⟨4, _⟩ => ⟨S2x384x16384, .bf16⟩
  | .hbm, ⟨5, _⟩ => ⟨S8x768x16384, .fp8e5m2⟩
  | .hbm, ⟨6, _⟩ => ⟨S768x16384, .bf16⟩
  | .hbm, ⟨7, _⟩ => ⟨S1x16384, .f32⟩
  | .hbm, ⟨8, _⟩ => ⟨S768x16384, .bf16⟩
  | .hbm, ⟨9, _⟩ => ⟨S768x16384, .bf16⟩
  | .hbm, ⟨10, _⟩ => ⟨S1x16384, .f32⟩
  | .hbm, ⟨11, _⟩ => ⟨S1x16384, .f32⟩
  | .hbm, ⟨12, _⟩ => ⟨S768x16384, .fp8e5m2⟩
  | .hbm, ⟨13, _⟩ => ⟨S2x384, .f32⟩
  | .local _ .vmem, ⟨0, _⟩ => ⟨S8x32x16384, .fp8e5m2⟩
  | .local _ .vmem, ⟨1, _⟩ => ⟨S8x32x16384, .fp8e5m2⟩
  | .local _ .vmem, ⟨2, _⟩ => ⟨S8x2x384, .f32⟩
  | .local _ .vmem, ⟨3, _⟩ => ⟨S32x16384, .bf16⟩
  | .local _ .vmem, ⟨4, _⟩ => ⟨S32x16384, .bf16⟩
  | .local _ .vmem, ⟨5, _⟩ => ⟨S1x16384, .f32⟩
  | .local _ .vmem, ⟨6, _⟩ => ⟨S32x16384, .bf16⟩
  | .local _ .vmem, ⟨7, _⟩ => ⟨S32x16384, .bf16⟩
  | .local _ .vmem, ⟨8, _⟩ => ⟨S32x16384, .bf16⟩
  | .local _ .vmem, ⟨9, _⟩ => ⟨S32x16384, .bf16⟩
  | .local _ .vmem, ⟨10, _⟩ => ⟨S1x16384, .f32⟩
  | .local _ .vmem, ⟨11, _⟩ => ⟨S1x16384, .f32⟩
  | .local _ .vmem, ⟨12, _⟩ => ⟨S32x16384, .fp8e5m2⟩
  | .local _ .vmem, ⟨13, _⟩ => ⟨S32x16384, .fp8e5m2⟩
  | .local _ .vmem, ⟨14, _⟩ => ⟨S2x384, .f32⟩
  | .local _ .vmem, ⟨15, _⟩ => ⟨S32x16384, .f32⟩
  | .local _ .vmem, ⟨16, _⟩ => ⟨S8x16384, .f32⟩
  | .local _ .vmem, ⟨17, _⟩ => ⟨S8x16384, .f32⟩
  | _, _ => ⟨S8x2x384x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![24], ![false]⟩

def k0_mult1 (i : grid0.Coords) : BitVec 32 :=
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_12 : BitVec 32 := 0#32
  let v31 : BitVec 1 := Scalar.cmpi .sgt v26 c0_i32_12
  let v32 : BitVec 32 := Scalar.extui v31
  let c0_i32_13 : BitVec 32 := 0#32
  let v33 : BitVec 1 := Scalar.cmpi .slt v26 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v26 c4_i32
  let c0_i32_16 : BitVec 32 := 0#32
  let v43 : BitVec 1 := Scalar.cmpi .ne v42 c0_i32_16
  let v44 : BitVec 1 := Scalar.andi v41 v43
  let v30 : BitVec 32 := Scalar.divsi v26 c4_i32
  let c1_i32_17 : BitVec 32 := 1#32
  let v45 : BitVec 32 := Scalar.subi v30 c1_i32_17
  let v46 : BitVec 32 := Scalar.select v44 v45 v30
  let c128_i32 : BitVec 32 := 128#32
  let v47 : BitVec 32 := Scalar.muli v46 c128_i32
  v47
def k0_off1 (i : grid0.Coords) : Fin 3 → Nat :=
  let c0 : Index := 0#32
  let c0_18 : Index := 0#32
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_12 : BitVec 32 := 0#32
  let v31 : BitVec 1 := Scalar.cmpi .sgt v26 c0_i32_12
  let v32 : BitVec 32 := Scalar.extui v31
  let c0_i32_13 : BitVec 32 := 0#32
  let v33 : BitVec 1 := Scalar.cmpi .slt v26 c0_i32_13
  let v34 : BitVec 32 := Scalar.extui v33
  let v35 : BitVec 32 := Scalar.subi v32 v34
  let c4_i32 : BitVec 32 := 4#32
  let c0_i32_14 : BitVec 32 := 0#32
  let v36 : BitVec 1 := Scalar.cmpi .sgt c4_i32 c0_i32_14
  let v37 : BitVec 32 := Scalar.extui v36
  let c0_i32_15 : BitVec 32 := 0#32
  let v38 : BitVec 1 := Scalar.cmpi .slt c4_i32 c0_i32_15
  let v39 : BitVec 32 := Scalar.extui v38
  let v40 : BitVec 32 := Scalar.subi v37 v39
  let v41 : BitVec 1 := Scalar.cmpi .ne v35 v40
  let v42 : BitVec 32 := Scalar.remsi v26 c4_i32
  let c0_i32_16 : BitVec 32 := 0#32
  let v43 : BitVec 1 := Scalar.cmpi .ne v42 c0_i32_16
  let v44 : BitVec 1 := Scalar.andi v41 v43
  let v30 : BitVec 32 := Scalar.divsi v26 c4_i32
  let c1_i32_17 : BitVec 32 := 1#32
  let v45 : BitVec 32 := Scalar.subi v30 c1_i32_17
  let v46 : BitVec 32 := Scalar.select v44 v45 v30
  let c128_i32 : BitVec 32 := 128#32
  let v47 : BitVec 32 := Scalar.muli v46 c128_i32
  let v48 : BitVec 32 := v47
  let v49 : Index := Scalar.indexCast v48
  ![0, 0, v49.toNat]
def k0_cond2 (i : grid0.Coords) : BitVec 1 :=
  let arg0 : BitVec 32 := BitVec.ofNat 32 (i 0).val
  let c23_i32_3991 : BitVec 32 := 23#32
  let v7685 : BitVec 1 := Scalar.cmpi .eq arg0 c23_i32_3991
  let v7686 : BitVec 32 := Scalar.extui v7685
  let c0_i32_3992 : BitVec 32 := 0#32
  let v7687 : BitVec 1 := Scalar.cmpi .ne v7686 c0_i32_3992
  v7687

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x32x16384 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x16384 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8x2x384x16384 : Shape := ⟨4, ![8, 2, 384, 16384]⟩
abbrev S8x2x384 : Shape := ⟨3, ![8, 2, 384]⟩
abbrev S2x384x16384 : Shape := ⟨3, ![2, 384, 16384]⟩
abbrev S16384 : Shape := ⟨1, ![16384]⟩
abbrev S8x768x16384 : Shape := ⟨3, ![8, 768, 16384]⟩
abbrev S8x768x1 : Shape := ⟨3, ![8, 768, 1]⟩
abbrev S768x16384 : Shape := ⟨2, ![768, 16384]⟩
abbrev S1x16384 : Shape := ⟨2, ![1, 16384]⟩
abbrev S768x1 : Shape := ⟨2, ![768, 1]⟩
abbrev S768 : Shape := ⟨1, ![768]⟩
abbrev S1x239 : Shape := ⟨2, ![1, 239]⟩
abbrev S768x239 : Shape := ⟨2, ![768, 239]⟩
abbrev S2x384 : Shape := ⟨2, ![2, 384]⟩

abbrev nBuf : Space → Nat
  | .hbm => 16
  | .vmem => 10
  | .smem => 0
  | _ => 0

abbrev bufTy : (tb : Table) → Fin (tcTables nBuf tb) → BufTy
  | .hbm, ⟨0, _⟩ => ⟨S8x2x384x16384, .fp8e5m2⟩
  | .hbm, ⟨1, _⟩ => ⟨S8x2x384, .f32⟩
  | .hbm, ⟨2, _⟩ => ⟨S2x384x16384, .bf16⟩
  | .hbm, ⟨3, _⟩ => ⟨S16384, .f32⟩
  | .hbm, ⟨4, _⟩ => ⟨S2x384x16384, .bf16⟩
  | .hbm, ⟨5, _⟩ => ⟨S8x768x16384, .fp8e5m2⟩
  | .hbm, ⟨6, _⟩ => ⟨S8x768x1, .f32⟩
  | .hbm, ⟨7, _⟩ => ⟨S768x16384, .bf16⟩
  | .hbm, ⟨8, _⟩ => ⟨S1x16384, .f32⟩
  | .hbm, ⟨9, _⟩ => ⟨S768x16384, .bf16⟩
  | .hbm, ⟨10, _⟩ => ⟨S768x16384, .bf16⟩
  | .hbm, ⟨11, _⟩ => ⟨S1x16384, .f32⟩
  | .hbm, ⟨12, _⟩ => ⟨S1x16384, .f32⟩
  | .hbm, ⟨13, _⟩ => ⟨S768x16384, .fp8e5m2⟩
  | .hbm, ⟨14, _⟩ => ⟨S768x1, .f32⟩
  | .hbm, ⟨15, _⟩ => ⟨S2x384, .f32⟩
  | .local _ .vmem, ⟨0, _⟩ => ⟨S8x768x16384, .fp8e5m2⟩
  | .local _ .vmem, ⟨1, _⟩ => ⟨S8x768x1, .f32⟩
  | .local _ .vmem, ⟨2, _⟩ => ⟨S768x16384, .bf16⟩
  | .local _ .vmem, ⟨3, _⟩ => ⟨S1x16384, .f32⟩
  | .local _ .vmem, ⟨4, _⟩ => ⟨S768x16384, .bf16⟩
  | .local _ .vmem, ⟨5, _⟩ => ⟨S768x16384, .bf16⟩
  | .local _ .vmem, ⟨6, _⟩ => ⟨S1x16384, .f32⟩
  | .local _ .vmem, ⟨7, _⟩ => ⟨S1x16384, .f32⟩
  | .local _ .vmem, ⟨8, _⟩ => ⟨S768x16384, .fp8e5m2⟩
  | .local _ .vmem, ⟨9, _⟩ => ⟨S768x1, .f32⟩
  | _, _ => ⟨S8x2x384x16384, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x768x16384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x16384 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Prog.lean ====
module

public import proofs.«01_k».proof.Proof.Gen.KernelIdeal
public import Idealize.ShloMosaic.Lib.Tactic

@[expose] public section

/-! The kernel's body written as three counted loops over column chunks, with its values named by
plain functions of what was loaded. The printed body is these loops unrolled. -/

noncomputable section

namespace Cert.KernelIdeal.Str

open Idealize.ShloMosaic Idealize.SL.Sem Idealize.ShloMosaic.Tactic
open Cert.KernelIdeal.Gen

variable {F : FTy → Type} [FloatOps F]

/-! ## Rectangles -/

theorem inb32 (k : Nat) (hk : k < 128) : ∀ a, (![0, 128 * k] : Fin 2 → Nat) a + S32x128.size a ≤ S32x16384.size a := by
  intro a; fin_cases a
  · exact (by decide : (0 : Nat) + 32 ≤ 32)
  · show 128 * k + 128 ≤ 16384; omega

theorem inb8 (k : Nat) (hk : k < 128) : ∀ a, (![0, 128 * k] : Fin 2 → Nat) a + S8x128.size a ≤ S8x16384.size a := by
  intro a; fin_cases a
  · exact (by decide : (0 : Nat) + 8 ≤ 8)
  · show 128 * k + 128 ≤ 16384; omega

theorem inb1 (k : Nat) (hk : k < 128) : ∀ a, (![0, 128 * k] : Fin 2 → Nat) a + S1x128.size a ≤ S1x16384.size a := by
  intro a; fin_cases a
  · exact (by decide : (0 : Nat) + 1 ≤ 1)
  · show 128 * k + 128 ≤ 16384; omega

theorem inb512 (c : Nat) (hc : c < 32) : ∀ a, (![0, 512 * c] : Fin 2 → Nat) a + S32x512.size a ≤ S32x16384.size a := by
  intro a; fin_cases a
  · exact (by decide : (0 : Nat) + 32 ≤ 32)
  · show 512 * c + 512 ≤ 16384; omega

theorem inbP (c : Nat) (hc : c < 32) : ∀ a, (![0, 0, 512 * c] : Fin 3 → Nat) a + S8x32x512.size a ≤ S8x32x16384.size a := by
  intro a; fin_cases a
  · exact (by decide : (0 : Nat) + 8 ≤ 8)
  · exact (by decide : (0 : Nat) + 32 ≤ 32)
  · show 512 * c + 512 ≤ 16384; omega

/-- Columns `128 k … 128 k + 127` of a block of 32 rows. -/
abbrev r32 (k : Nat) (hk : k < 128) : Rect S32x16384 := Rect.unit (s := S32x16384) ![0, 128 * k] S32x128.size (inb32 k hk)
/-- Columns `128 k … 128 k + 127` of a block of 8 rows. -/
abbrev r8 (k : Nat) (hk : k < 128) : Rect S8x16384 := Rect.unit (s := S8x16384) ![0, 128 * k] S8x128.size (inb8 k hk)
/-- Columns `128 k … 128 k + 127` of a row. -/
abbrev r1 (k : Nat) (hk : k < 128) : Rect S1x16384 := Rect.unit (s := S1x16384) ![0, 128 * k] S1x128.size (inb1 k hk)
/-- Columns `512 c … 512 c + 511` of a block of 32 rows. -/
abbrev r512 (c : Nat) (hc : c < 32) : Rect S32x16384 := Rect.unit (s := S32x16384) ![0, 512 * c] S32x512.size (inb512 c hc)
/-- Columns `512 c … 512 c + 511` of the eight parts. -/
abbrev rP (c : Nat) (hc : c < 32) : Rect S8x32x16384 := Rect.unit (s := S8x32x16384) ![0, 0, 512 * c] S8x32x512.size (inbP c hc)

theorem packed16 (k : Nat) (hk : k < 128) : (r32 k hk).PackedRows (EltTy.packing .bf16) :=
  .inr ⟨by decide, rfl, .inl ⟨⟨0, rfl⟩, by show (EltTy.packing .bf16) ∣ 32; decide⟩⟩

theorem packed8 (k : Nat) (hk : k < 128) : (r32 k hk).PackedRows (EltTy.packing .fp8e5m2) :=
  .inr ⟨by decide, rfl, .inl ⟨⟨0, rfl⟩, by show (EltTy.packing .fp8e5m2) ∣ 32; decide⟩⟩

/-! ## Values -/

/-- The scales of the eight parts at this grid point's 128 columns, for the batch row the point lies in, rotated. -/
def rot (i : grid0.Coords) (v50 : Vec F S8x2x128 .f32) : FVec F S8x128 .f32 :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v51 : FVec F S8x1x128 .f32 := extractStridedSlice S8x1x128 ![0, 0, 0] v50 slices_S8x2x128_o0_0_0_S8x1x128
  let v52 : FVec F S8x128 .f32 := shapeCast S8x128 v51 shapeCasts_S8x1x128_S8x128
  let c1_i32_19 : BitVec 32 := 1#32
  let v53 : BitVec 1 := Scalar.cmpi .eq v16 c1_i32_19
  let v54 : FVec F S8x1x128 .f32 := extractStridedSlice S8x1x128 ![0, 1, 0] v50 slices_S8x2x128_o0_1_0_S8x1x128
  let v55 : FVec F S8x128 .f32 := shapeCast S8x128 v54 shapeCasts_S8x1x128_S8x128
  let v56 : FVec F S8x128 .f32 := Scalar.select v53 v55 v52
  let c4_i32_20 : BitVec 32 := 4#32
  let c0_i32_21 : BitVec 32 := 0#32
  let v57 : BitVec 1 := Scalar.cmpi .eq c4_i32_20 c0_i32_21
  let c1_i32_22 : BitVec 32 := 1#32
  let v58 : BitVec 32 := Scalar.select v57 c1_i32_22 c4_i32_20
  let v59 : BitVec 32 := Scalar.remsi v26 v58
  let c0_i32_23 : BitVec 32 := 0#32
  let v60 : BitVec 1 := Scalar.cmpi .ne v59 c0_i32_23
  let c0_i32_24 : BitVec 32 := 0#32
  let v61 : BitVec 1 := Scalar.cmpi .slt v59 c0_i32_24
  let c0_i32_25 : BitVec 32 := 0#32
  let v62 : BitVec 1 := Scalar.cmpi .slt v58 c0_i32_25
  let v63 : BitVec 1 := Scalar.xori v61 v62
  let v64 : BitVec 1 := Scalar.andi v63 v60
  let v65 : BitVec 32 := Scalar.addi v59 v58
  let v66 : BitVec 32 := Scalar.select v64 v65 v59
  let c4_i32_26 : BitVec 32 := 4#32
  let v69 : BitVec 32 := Scalar.subi c4_i32_26 v66
  let c32_i32 : BitVec 32 := 32#32
  let v70 : BitVec 32 := Scalar.muli v69 c32_i32
  let v71 : FVec F S8x128 .f32 := dynamicRotate 1 v70 none v56 rotates_S8x128_d1
  v71

/-- The matrix the parts' codes are multiplied by: part `p`'s scale of token `s` at `(s, 32 p + s)`, zero elsewhere. -/
def lhsOf (v71 : FVec F S8x128 .f32) : FVec F S32x256 .bf16 :=
  let v67 : IVec S32x128 32 := iota .tc S32x128 32 [1] iota_S32x128_d1_w32
  let v68 : IVec S32x128 32 := iota .tc S32x128 32 [0] iota_S32x128_d0_w32
  let cst : F .f32 := Scalar.ofBits .f32 0x00000000#32
  let v72 : FVec F S32x128 .f32 := broadcast S32x128 cst
  let v73 : FVec F S1x128 .f32 := extractStridedSlice S1x128 ![0, 0] v71 slices_S8x128_o0_0_S1x128
  let v74 : FVec F S1x128 .f32 := shapeCast S1x128 v73 shapeCasts_S1x128_S1x128
  let v75 : FVec F S32x128 .f32 := broadcastTo S32x128 v74 broadcasts_S1x128_S32x128
  let c0_i32_27 : BitVec 32 := 0#32
  let v76 : IVec S32x128 32 := broadcast S32x128 c0_i32_27
  let v77 : IVec S32x128 32 := addi v68 v76
  let v78 : IVec S32x128 1 := cmpi .eq v67 v77
  let v79 : FVec F S32x128 .f32 := select v78 v75 v72
  let v80 : FVec F S1x128 .f32 := extractStridedSlice S1x128 ![1, 0] v71 slices_S8x128_o1_0_S1x128
  let v81 : FVec F S1x128 .f32 := shapeCast S1x128 v80 shapeCasts_S1x128_S1x128
  let v82 : FVec F S32x128 .f32 := broadcastTo S32x128 v81 broadcasts_S1x128_S32x128
  let c32_i32_28 : BitVec 32 := 32#32
  let v83 : FVec F S32x128 .f32 := dynamicRotate 1 c32_i32_28 none v82 rotates_S32x128_d1
  let c32_i32_29 : BitVec 32 := 32#32
  let v84 : IVec S32x128 32 := broadcast S32x128 c32_i32_29
  let v85 : IVec S32x128 32 := addi v68 v84
  let v86 : IVec S32x128 1 := cmpi .eq v67 v85
  let v87 : FVec F S32x128 .f32 := select v86 v83 v79
  let v88 : FVec F S1x128 .f32 := extractStridedSlice S1x128 ![2, 0] v71 slices_S8x128_o2_0_S1x128
  let v89 : FVec F S1x128 .f32 := shapeCast S1x128 v88 shapeCasts_S1x128_S1x128
  let v90 : FVec F S32x128 .f32 := broadcastTo S32x128 v89 broadcasts_S1x128_S32x128
  let c64_i32 : BitVec 32 := 64#32
  let v91 : FVec F S32x128 .f32 := dynamicRotate 1 c64_i32 none v90 rotates_S32x128_d1
  let c64_i32_30 : BitVec 32 := 64#32
  let v92 : IVec S32x128 32 := broadcast S32x128 c64_i32_30
  let v93 : IVec S32x128 32 := addi v68 v92
  let v94 : IVec S32x128 1 := cmpi .eq v67 v93
  let v95 : FVec F S32x128 .f32 := select v94 v91 v87
  let v96 : FVec F S1x128 .f32 := extractStridedSlice S1x128 ![3, 0] v71 slices_S8x128_o3_0_S1x128
  let v97 : FVec F S1x128 .f32 := shapeCast S1x128 v96 shapeCasts_S1x128_S1x128
  let v98 : FVec F S32x128 .f32 := broadcastTo S32x128 v97 broadcasts_S1x128_S32x128
  let c96_i32 : BitVec 32 := 96#32
  let v99 : FVec F S32x128 .f32 := dynamicRotate 1 c96_i32 none v98 rotates_S32x128_d1
  let c96_i32_31 : BitVec 32 := 96#32
  let v100 : IVec S32x128 32 := broadcast S32x128 c96_i32_31
  let v101 : IVec S32x128 32 := addi v68 v100
  let v102 : IVec S32x128 1 := cmpi .eq v67 v101
  let v103 : FVec F S32x128 .f32 := select v102 v99 v95
  let v104 : FVec F S32x128 .bf16 := truncf .bf16 v103 bitsLt_bf16_f32
  let cst_32 : F .f32 := Scalar.ofBits .f32 0x00000000#32
  let v105 : FVec F S32x128 .f32 := broadcast S32x128 cst_32
  let v106 : FVec F S1x128 .f32 := extractStridedSlice S1x128 ![4, 0] v71 slices_S8x128_o4_0_S1x128
  let v107 : FVec F S1x128 .f32 := shapeCast S1x128 v106 shapeCasts_S1x128_S1x128
  let v108 : FVec F S32x128 .f32 := broadcastTo S32x128 v107 broadcasts_S1x128_S32x128
  let c0_i32_33 : BitVec 32 := 0#32
  let v109 : IVec S32x128 32 := broadcast S32x128 c0_i32_33
  let v110 : IVec S32x128 32 := addi v68 v109
  let v111 : IVec S32x128 1 := cmpi .eq v67 v110
  let v112 : FVec F S32x128 .f32 := select v111 v108 v105
  let v113 : FVec F S1x128 .f32 := extractStridedSlice S1x128 ![5, 0] v71 slices_S8x128_o5_0_S1x128
  let v114 : FVec F S1x128 .f32 := shapeCast S1x128 v113 shapeCasts_S1x128_S1x128
  let v115 : FVec F S32x128 .f32 := broadcastTo S32x128 v114 broadcasts_S1x128_S32x128
  let c32_i32_34 : BitVec 32 := 32#32
  let v116 : FVec F S32x128 .f32 := dynamicRotate 1 c32_i32_34 none v115 rotates_S32x128_d1
  let c32_i32_35 : BitVec 32 := 32#32
  let v117 : IVec S32x128 32 := broadcast S32x128 c32_i32_35
  let v118 : IVec S32x128 32 := addi v68 v117
  let v119 : IVec S32x128 1 := cmpi .eq v67 v118
  let v120 : FVec F S32x128 .f32 := select v119 v116 v112
  let v121 : FVec F S1x128 .f32 := extractStridedSlice S1x128 ![6, 0] v71 slices_S8x128_o6_0_S1x128
  let v122 : FVec F S1x128 .f32 := shapeCast S1x128 v121 shapeCasts_S1x128_S1x128
  let v123 : FVec F S32x128 .f32 := broadcastTo S32x128 v122 broadcasts_S1x128_S32x128
  let c64_i32_36 : BitVec 32 := 64#32
  let v124 : FVec F S32x128 .f32 := dynamicRotate 1 c64_i32_36 none v123 rotates_S32x128_d1
  let c64_i32_37 : BitVec 32 := 64#32
  let v125 : IVec S32x128 32 := broadcast S32x128 c64_i32_37
  let v126 : IVec S32x128 32 := addi v68 v125
  let v127 : IVec S32x128 1 := cmpi .eq v67 v126
  let v128 : FVec F S32x128 .f32 := select v127 v124 v120
  let v129 : FVec F S1x128 .f32 := extractStridedSlice S1x128 ![7, 0] v71 slices_S8x128_o7_0_S1x128
  let v130 : FVec F S1x128 .f32 := shapeCast S1x128 v129 shapeCasts_S1x128_S1x128
  let v131 : FVec F S32x128 .f32 := broadcastTo S32x128 v130 broadcasts_S1x128_S32x128
  let c96_i32_38 : BitVec 32 := 96#32
  let v132 : FVec F S32x128 .f32 := dynamicRotate 1 c96_i32_38 none v131 rotates_S32x128_d1
  let c96_i32_39 : BitVec 32 := 96#32
  let v133 : IVec S32x128 32 := broadcast S32x128 c96_i32_39
  let v134 : IVec S32x128 32 := addi v68 v133
  let v135 : IVec S32x128 1 := cmpi .eq v67 v134
  let v136 : FVec F S32x128 .f32 := select v135 v132 v128
  let v137 : FVec F S32x128 .bf16 := truncf .bf16 v136 bitsLt_bf16_f32
  let v138 : FVec F S32x256 .bf16 := concatenate S32x256 1 [⟨S32x128, v104⟩, ⟨S32x128, v137⟩] concatenates_S32x128_S32x128_S32x256_d1
  v138

/-- One 512-column chunk of the sum of the scaled parts. -/
def gOf (v138 : FVec F S32x256 .bf16) (v141 : Vec F S8x32x512 .fp8e5m2) : FVec F S32x512 .f32 :=
  let v142 : FVec F S8x32x512 .fp8e5m2 := shapeCast S8x32x512 v141 shapeCasts_S8x32x512_S8x32x512
  let v143 : FVec F S256x512 .fp8e5m2 := shapeCast S256x512 v142 shapeCasts_S8x32x512_S256x512
  let cst_45 : FVec F S32x512 .f32 := constant S32x512 .f32 0x00000000#32
  let v144 : FVec F S32x512 .f32 := matmul dot_S32x256_S256x512_S32x512_1_0_0_1_n_n none v138 v143 cst_45
  v144

/-- One lane chunk's squares added to the running sum. -/
def msqOf (v139 : FVec F S32x128 .f32) (v148 : Vec F S32x128 .bf16) : FVec F S32x128 .f32 :=
  let v149 : FVec F S32x128 .bf16 := shapeCast S32x128 v148 shapeCasts_S32x128_S32x128
  let v150 : FVec F S32x128 .f32 := extf .f32 v149 bitsLt_bf16_f32
  let v151 : FVec F S32x128 .f32 := mulf v150 v150
  let v152 : FVec F S32x128 .f32 := addf v139 v151
  v152

/-- One lane chunk's products added to the running sum. -/
def cdotOf (v140 v153 : FVec F S32x128 .f32) (v148 : Vec F S32x128 .bf16) (v154 : Vec F S1x128 .f32) : FVec F S32x128 .f32 :=
  let v149 : FVec F S32x128 .bf16 := shapeCast S32x128 v148 shapeCasts_S32x128_S32x128
  let v150 : FVec F S32x128 .f32 := extf .f32 v149 bitsLt_bf16_f32
  let v155 : FVec F S1x128 .f32 := shapeCast S1x128 v154 shapeCasts_S1x128_S1x128
  let v156 : FVec F S32x128 .f32 := broadcastTo S32x128 v155 broadcasts_S1x128_S32x128
  let v157 : FVec F S32x128 .f32 := mulf v153 v156
  let v158 : FVec F S32x128 .f32 := mulf v157 v150
  let v159 : FVec F S32x128 .f32 := addf v140 v158
  v159

/-- The zero block the running sums start from. -/
def zero32 : FVec F S32x128 .f32 :=
  let cst_40 : F .f32 := Scalar.ofBits .f32 0x00000000#32
  broadcast S32x128 cst_40

/-- The reciprocal root, in every lane. -/
def k1Of (v1893 : FVec F S32x128 .f32) : FVec F S32x128 .f32 :=
  let v1901 : FVec F S32 .f32 := multiReduction .add [1] S32 v1893 0x00000000#32 reduces_S32x128_S32 (.inl rfl) rfl
  let v1902 : FVec F S32x1 .f32 := shapeCast S32x1 v1901 shapeCasts_S32_S32x1
  let cst_620 : F .f32 := Scalar.ofBits .f32 0x38800000#32
  let v1903 : FVec F S32x1 .f32 := broadcast S32x1 cst_620
  let v1904 : FVec F S32x1 .f32 := mulf v1902 v1903
  let cst_621 : F .f32 := Scalar.ofBits .f32 0x358637BD#32
  let v1905 : FVec F S32x1 .f32 := broadcast S32x1 cst_621
  let v1906 : FVec F S32x1 .f32 := addf v1904 v1905
  let v1907 : FVec F S32x1 .f32 := rsqrt v1906
  let v1912 : FVec F S32x1 .f32 := shapeCast S32x1 v1907 shapeCasts_S32x1_S32x1
  let v1913 : FVec F S32x128 .f32 := broadcastTo S32x128 v1912 broadcasts_S32x1_S32x128
  v1913

/-- Its cube times the mean product, in every lane. -/
def k2Of (v1893 v1900 : FVec F S32x128 .f32) : FVec F S32x128 .f32 :=
  let v1901 : FVec F S32 .f32 := multiReduction .add [1] S32 v1893 0x00000000#32 reduces_S32x128_S32 (.inl rfl) rfl
  let v1902 : FVec F S32x1 .f32 := shapeCast S32x1 v1901 shapeCasts_S32_S32x1
  let cst_620 : F .f32 := Scalar.ofBits .f32 0x38800000#32
  let v1903 : FVec F S32x1 .f32 := broadcast S32x1 cst_620
  let v1904 : FVec F S32x1 .f32 := mulf v1902 v1903
  let cst_621 : F .f32 := Scalar.ofBits .f32 0x358637BD#32
  let v1905 : FVec F S32x1 .f32 := broadcast S32x1 cst_621
  let v1906 : FVec F S32x1 .f32 := addf v1904 v1905
  let v1907 : FVec F S32x1 .f32 := rsqrt v1906
  let v1908 : FVec F S32 .f32 := multiReduction .add [1] S32 v1900 0x00000000#32 reduces_S32x128_S32 (.inl rfl) rfl
  let v1909 : FVec F S32x1 .f32 := shapeCast S32x1 v1908 shapeCasts_S32_S32x1
  let cst_623 : F .f32 := Scalar.ofBits .f32 0x38800000#32
  let v1910 : FVec F S32x1 .f32 := broadcast S32x1 cst_623
  let v1911 : FVec F S32x1 .f32 := mulf v1909 v1910
  let v1914 : FVec F S32x1 .f32 := mulf v1907 v1907
  let v1915 : FVec F S32x1 .f32 := mulf v1914 v1907
  let v1916 : FVec F S32x1 .f32 := mulf v1915 v1911
  let v1917 : FVec F S32x1 .f32 := shapeCast S32x1 v1916 shapeCasts_S32x1_S32x1
  let v1918 : FVec F S32x128 .f32 := broadcastTo S32x128 v1917 broadcasts_S32x1_S32x128
  v1918

/-- The zero block the running maximum starts from. -/
def zero16 : FVec F S32x128 .bf16 :=
  let cst_624 : F .bf16 := Scalar.ofBits .bf16 0x0000#16
  broadcast S32x128 cst_624

/-- One chunk's share of the gain gradient before the sum over tokens. -/
def dgtOf (v1913 : FVec F S32x128 .f32) (v1920 : Vec F S32x128 .bf16) (v1923 : Vec F S32x128 .f32) : FVec F S32x128 .f32 :=
  let v1921 : FVec F S32x128 .bf16 := shapeCast S32x128 v1920 shapeCasts_S32x128_S32x128
  let v1922 : FVec F S32x128 .f32 := extf .f32 v1921 bitsLt_bf16_f32
  let v1924 : FVec F S32x128 .f32 := mulf v1923 v1922
  let v1925 : FVec F S32x128 .f32 := mulf v1924 v1913
  v1925

/-- One chunk of the gradient of the input, before rounding. -/
def dhOf (v1913 v1918 : FVec F S32x128 .f32) (v1920 : Vec F S32x128 .bf16) (v1923 : Vec F S32x128 .f32)
    (v1926 : Vec F S1x128 .f32) (v1933 : Vec F S32x128 .bf16) : FVec F S32x128 .f32 :=
  let v1921 : FVec F S32x128 .bf16 := shapeCast S32x128 v1920 shapeCasts_S32x128_S32x128
  let v1922 : FVec F S32x128 .f32 := extf .f32 v1921 bitsLt_bf16_f32
  let v1927 : FVec F S1x128 .f32 := shapeCast S1x128 v1926 shapeCasts_S1x128_S1x128
  let v1928 : FVec F S32x128 .f32 := broadcastTo S32x128 v1927 broadcasts_S1x128_S32x128
  let v1929 : FVec F S32x128 .f32 := mulf v1923 v1928
  let v1930 : FVec F S32x128 .f32 := mulf v1913 v1929
  let v1931 : FVec F S32x128 .f32 := mulf v1922 v1918
  let v1932 : FVec F S32x128 .f32 := subf v1930 v1931
  let v1934 : FVec F S32x128 .bf16 := shapeCast S32x128 v1933 shapeCasts_S32x128_S32x128
  let v1935 : FVec F S32x128 .f32 := extf .f32 v1934 bitsLt_bf16_f32
  let v1936 : FVec F S32x128 .f32 := addf v1932 v1935
  v1936

/-- A chunk summed over its four groups of eight tokens and added to the accumulator. -/
def accOf (v1937 : Vec F S8x128 .f32) (v1925 : FVec F S32x128 .f32) : FVec F S8x128 .f32 :=
  let v1938 : FVec F S4x8x128 .f32 := shapeCast S4x8x128 v1925 shapeCasts_S32x128_S4x8x128
  let v1939 : FVec F S8x128 .f32 := multiReduction .add [0] S8x128 v1938 0x00000000#32 reduces_S4x8x128_S8x128 (.inl rfl) rfl
  let v1940 : FVec F S8x128 .f32 := addf v1937 v1939
  let v1943 : FVec F S8x128 .f32 := shapeCast S8x128 v1940 shapeCasts_S8x128_S8x128
  v1943

/-- A chunk rounded to the result's format. -/
def gxOf (v1936 : FVec F S32x128 .f32) : FVec F S32x128 .bf16 :=
  let v1951 : FVec F S32x128 .bf16 := truncf .bf16 v1936 bitsLt_bf16_f32
  v1951

/-- The running maximum of absolute values. -/
def amaxOf (v1919 : FVec F S32x128 .bf16) (v1951 : FVec F S32x128 .bf16) : FVec F S32x128 .bf16 :=
  let v1953 : FVec F S32x128 .bf16 := absf v1951
  let v1954 : FVec F S32x128 .bf16 := maximumf v1919 v1953
  v1954

/-- The largest absolute value over the largest code, in every lane. -/
def qOf (v6399 : FVec F S32x128 .bf16) : FVec F S32x128 .f32 :=
  let v6400 : FVec F S32x128 .f32 := extf .f32 v6399 bitsLt_bf16_f32
  let v6401 : FVec F S32 .f32 := multiReduction .maximumf [1] S32 v6400 0xFF800000#32 reduces_S32x128_S32 (.inl rfl) rfl
  let v6402 : FVec F S32x1 .f32 := shapeCast S32x1 v6401 shapeCasts_S32_S32x1
  let cst_3186 : F .f32 := Scalar.ofBits .f32 0x37924925#32
  let v6403 : FVec F S32x1 .f32 := broadcast S32x1 cst_3186
  let v6404 : FVec F S32x1 .f32 := mulf v6402 v6403
  let v6405 : FVec F S32x1 .f32 := shapeCast S32x1 v6404 shapeCasts_S32x1_S32x1
  let v6406 : FVec F S32x128 .f32 := broadcastTo S32x128 v6405 broadcasts_S32x1_S32x128
  v6406

/-- The exponent field of a nonnegative quotient, found bit by bit. -/
def fieldOf (v6406 : FVec F S32x128 .f32) : IVec S32x128 32 :=
  let c0_i32_3187 : BitVec 32 := 0#32
  let v6407 : IVec S32x128 32 := broadcast S32x128 c0_i32_3187
  let c128_i32_3188 : BitVec 32 := 128#32
  let v6408 : IVec S32x128 32 := broadcast S32x128 c128_i32_3188
  let v6409 : IVec S32x128 32 := addi v6407 v6408
  let c239_i32 : BitVec 32 := 239#32
  let v6410 : IVec S32x128 32 := broadcast S32x128 c239_i32
  let v6411 : IVec S32x128 32 := minsi v6409 v6410
  let c23_i32 : BitVec 32 := 23#32
  let v6412 : IVec S32x128 32 := broadcast S32x128 c23_i32
  let v6413 : IVec S32x128 32 := shli v6411 v6412
  let v6414 : FVec F S32x128 .f32 := bitcastToFloat .f32 v6413
  let v6415 : IVec S32x128 1 := cmpf .oge v6406 v6414
  let v6416 : IVec S32x128 32 := select v6415 v6411 v6407
  let c64_i32_3189 : BitVec 32 := 64#32
  let v6417 : IVec S32x128 32 := broadcast S32x128 c64_i32_3189
  let v6418 : IVec S32x128 32 := addi v6416 v6417
  let c239_i32_3190 : BitVec 32 := 239#32
  let v6419 : IVec S32x128 32 := broadcast S32x128 c239_i32_3190
  let v6420 : IVec S32x128 32 := minsi v6418 v6419
  let c23_i32_3191 : BitVec 32 := 23#32
  let v6421 : IVec S32x128 32 := broadcast S32x128 c23_i32_3191
  let v6422 : IVec S32x128 32 := shli v6420 v6421
  let v6423 : FVec F S32x128 .f32 := bitcastToFloat .f32 v6422
  let v6424 : IVec S32x128 1 := cmpf .oge v6406 v6423
  let v6425 : IVec S32x128 32 := select v6424 v6420 v6416
  let c32_i32_3192 : BitVec 32 := 32#32
  let v6426 : IVec S32x128 32 := broadcast S32x128 c32_i32_3192
  let v6427 : IVec S32x128 32 := addi v6425 v6426
  let c239_i32_3193 : BitVec 32 := 239#32
  let v6428 : IVec S32x128 32 := broadcast S32x128 c239_i32_3193
  let v6429 : IVec S32x128 32 := minsi v6427 v6428
  let c23_i32_3194 : BitVec 32 := 23#32
  let v6430 : IVec S32x128 32 := broadcast S32x128 c23_i32_3194
  let v6431 : IVec S32x128 32 := shli v6429 v6430
  let v6432 : FVec F S32x128 .f32 := bitcastToFloat .f32 v6431
  let v6433 : IVec S32x128 1 := cmpf .oge v6406 v6432
  let v6434 : IVec S32x128 32 := select v6433 v6429 v6425
  let c16_i32 : BitVec 32 := 16#32
  let v6435 : IVec S32x128 32 := broadcast S32x128 c16_i32
  let v6436 : IVec S32x128 32 := addi v6434 v6435
  let c239_i32_3195 : BitVec 32 := 239#32
  let v6437 : IVec S32x128 32 := broadcast S32x128 c239_i32_3195
  let v6438 : IVec S32x128 32 := minsi v6436 v6437
  let c23_i32_3196 : BitVec 32 := 23#32
  let v6439 : IVec S32x128 32 := broadcast S32x128 c23_i32_3196
  let v6440 : IVec S32x128 32 := shli v6438 v6439
  let v6441 : FVec F S32x128 .f32 := bitcastToFloat .f32 v6440
  let v6442 : IVec S32x128 1 := cmpf .oge v6406 v6441
  let v6443 : IVec S32x128 32 := select v6442 v6438 v6434
  let c8_i32 : BitVec 32 := 8#32
  let v6444 : IVec S32x128 32 := broadcast S32x128 c8_i32
  let v6445 : IVec S32x128 32 := addi v6443 v6444
  let c239_i32_3197 : BitVec 32 := 239#32
  let v6446 : IVec S32x128 32 := broadcast S32x128 c239_i32_3197
  let v6447 : IVec S32x128 32 := minsi v6445 v6446
  let c23_i32_3198 : BitVec 32 := 23#32
  let v6448 : IVec S32x128 32 := broadcast S32x128 c23_i32_3198
  let v6449 : IVec S32x128 32 := shli v6447 v6448
  let v6450 : FVec F S32x128 .f32 := bitcastToFloat .f32 v6449
  let v6451 : IVec S32x128 1 := cmpf .oge v6406 v6450
  let v6452 : IVec S32x128 32 := select v6451 v6447 v6443
  let c4_i32_3199 : BitVec 32 := 4#32
  let v6453 : IVec S32x128 32 := broadcast S32x128 c4_i32_3199
  let v6454 : IVec S32x128 32 := addi v6452 v6453
  let c239_i32_3200 : BitVec 32 := 239#32
  let v6455 : IVec S32x128 32 := broadcast S32x128 c239_i32_3200
  let v6456 : IVec S32x128 32 := minsi v6454 v6455
  let c23_i32_3201 : BitVec 32 := 23#32
  let v6457 : IVec S32x128 32 := broadcast S32x128 c23_i32_3201
  let v6458 : IVec S32x128 32 := shli v6456 v6457
  let v6459 : FVec F S32x128 .f32 := bitcastToFloat .f32 v6458
  let v6460 : IVec S32x128 1 := cmpf .oge v6406 v6459
  let v6461 : IVec S32x128 32 := select v6460 v6456 v6452
  let c2_i32 : BitVec 32 := 2#32
  let v6462 : IVec S32x128 32 := broadcast S32x128 c2_i32
  let v6463 : IVec S32x128 32 := addi v6461 v6462
  let c239_i32_3202 : BitVec 32 := 239#32
  let v6464 : IVec S32x128 32 := broadcast S32x128 c239_i32_3202
  let v6465 : IVec S32x128 32 := minsi v6463 v6464
  let c23_i32_3203 : BitVec 32 := 23#32
  let v6466 : IVec S32x128 32 := broadcast S32x128 c23_i32_3203
  let v6467 : IVec S32x128 32 := shli v6465 v6466
  let v6468 : FVec F S32x128 .f32 := bitcastToFloat .f32 v6467
  let v6469 : IVec S32x128 1 := cmpf .oge v6406 v6468
  let v6470 : IVec S32x128 32 := select v6469 v6465 v6461
  let c1_i32_3204 : BitVec 32 := 1#32
  let v6471 : IVec S32x128 32 := broadcast S32x128 c1_i32_3204
  let v6472 : IVec S32x128 32 := addi v6470 v6471
  let c239_i32_3205 : BitVec 32 := 239#32
  let v6473 : IVec S32x128 32 := broadcast S32x128 c239_i32_3205
  let v6474 : IVec S32x128 32 := minsi v6472 v6473
  let c23_i32_3206 : BitVec 32 := 23#32
  let v6475 : IVec S32x128 32 := broadcast S32x128 c23_i32_3206
  let v6476 : IVec S32x128 32 := shli v6474 v6475
  let v6477 : FVec F S32x128 .f32 := bitcastToFloat .f32 v6476
  let v6478 : IVec S32x128 1 := cmpf .oge v6406 v6477
  let v6479 : IVec S32x128 32 := select v6478 v6474 v6470
  let cst_3207 : F .f32 := Scalar.ofBits .f32 0x7F800000#32
  let v6480 : FVec F S32x128 .f32 := broadcast S32x128 cst_3207
  let v6481 : IVec S32x128 1 := cmpf .oeq v6406 v6480
  let c255_i32 : BitVec 32 := 255#32
  let v6482 : IVec S32x128 32 := broadcast S32x128 c255_i32
  let v6483 : IVec S32x128 32 := select v6481 v6482 v6479
  v6483

/-- The power of two the scale is. -/
def expOf (v6483 : IVec S32x128 32) : IVec S32x128 32 :=
  let c0_i32_3208 : BitVec 32 := 0#32
  let v6484 : IVec S32x128 32 := broadcast S32x128 c0_i32_3208
  let v6485 : IVec S32x128 1 := cmpi .eq v6483 v6484
  let c255_i32_3209 : BitVec 32 := 255#32
  let v6486 : IVec S32x128 32 := broadcast S32x128 c255_i32_3209
  let v6487 : IVec S32x128 1 := cmpi .eq v6483 v6486
  let v6488 : IVec S32x128 1 := ori v6485 v6487
  let c126_i32 : BitVec 32 := 126#32
  let v6489 : IVec S32x128 32 := broadcast S32x128 c126_i32
  let v6490 : IVec S32x128 32 := subi v6483 v6489
  let c0_i32_3210 : BitVec 32 := 0#32
  let v6491 : IVec S32x128 32 := broadcast S32x128 c0_i32_3210
  let v6492 : IVec S32x128 32 := select v6488 v6491 v6490
  v6492

/-- The scale. -/
def scaleOf (v6492 : IVec S32x128 32) : FVec F S32x128 .f32 :=
  let c127_i32 : BitVec 32 := 127#32
  let v6493 : IVec S32x128 32 := broadcast S32x128 c127_i32
  let v6494 : IVec S32x128 32 := addi v6492 v6493
  let c23_i32_3211 : BitVec 32 := 23#32
  let v6495 : IVec S32x128 32 := broadcast S32x128 c23_i32_3211
  let v6496 : IVec S32x128 32 := shli v6494 v6495
  let v6497 : FVec F S32x128 .f32 := bitcastToFloat .f32 v6496
  v6497

/-- The scale's reciprocal. -/
def invOf (v6492 : IVec S32x128 32) : FVec F S32x128 .bf16 :=
  let c127_i32_3212 : BitVec 32 := 127#32
  let v6498 : IVec S32x128 32 := broadcast S32x128 c127_i32_3212
  let v6499 : IVec S32x128 32 := subi v6498 v6492
  let c23_i32_3213 : BitVec 32 := 23#32
  let v6500 : IVec S32x128 32 := broadcast S32x128 c23_i32_3213
  let v6501 : IVec S32x128 32 := shli v6499 v6500
  let v6502 : FVec F S32x128 .f32 := bitcastToFloat .f32 v6501
  let v6503 : FVec F S32x128 .bf16 := truncf .bf16 v6502 bitsLt_bf16_f32
  v6503

/-- One chunk of codes. -/
def codeOf (v6503 : FVec F S32x128 .bf16) (v6504 : Vec F S32x128 .bf16) : FVec F S32x128 .fp8e5m2 :=
  let v6505 : FVec F S32x128 .bf16 := shapeCast S32x128 v6504 shapeCasts_S32x128_S32x128
  let v6506 : FVec F S32x128 .bf16 := mulf v6505 v6503
  let cst_3216 : F .bf16 := Scalar.ofBits .bf16 0xC760#16
  let cst_3217 : F .bf16 := Scalar.ofBits .bf16 0x4760#16
  let v6507 : FVec F S32x128 .bf16 := broadcast S32x128 cst_3216
  let v6508 : FVec F S32x128 .bf16 := maximumf v6507 v6506
  let v6509 : FVec F S32x128 .bf16 := broadcast S32x128 cst_3217
  let v6510 : FVec F S32x128 .bf16 := minimumf v6509 v6508
  let v6511 : FVec F S32x128 .fp8e5m2 := truncf .fp8e5m2 v6510 bitsLt_fp8e5m2_bf16
  v6511

/-- The tokens' scales, one per lane, in every row. -/
def rowOf (v6497 : FVec F S32x128 .f32) : FVec F S2x384 .f32 :=
  let v7656 : IVec S32x128 32 := iota .tc S32x128 32 [1] iota_S32x128_d1_w32
  let v7657 : IVec S32x128 32 := iota .tc S32x128 32 [0] iota_S32x128_d0_w32
  let c31_i32 : BitVec 32 := 31#32
  let v7658 : IVec S32x128 32 := broadcast S32x128 c31_i32
  let v7659 : IVec S32x128 32 := andi v7656 v7658
  let v7660 : IVec S32x128 1 := cmpi .eq v7659 v7657
  let cst_3982 : F .f32 := Scalar.ofBits .f32 0x00000000#32
  let v7661 : FVec F S32x128 .f32 := broadcast S32x128 cst_3982
  let v7662 : FVec F S32x128 .f32 := select v7660 v6497 v7661
  let v7663 : FVec F S128 .f32 := multiReduction .add [0] S128 v7662 0x00000000#32 reduces_S32x128_S128 (.inl rfl) rfl
  let v7664 : FVec F S1x128 .f32 := shapeCast S1x128 v7663 shapeCasts_S128_S1x128
  let v7665 : FVec F S1x384 .f32 := concatenate S1x384 1 [⟨S1x128, v7664⟩, ⟨S1x128, v7664⟩, ⟨S1x128, v7664⟩] concatenates_S1x128_S1x128_S1x128_S1x384_d1
  let v7679 : FVec F S1x384 .f32 := shapeCast S1x384 v7665 shapeCasts_S1x384_S1x384
  let v7680 : FVec F S2x384 .f32 := broadcastTo S2x384 v7679 broadcasts_S1x384_S2x384
  v7680

/-- The positions of this grid point's tokens. -/
def mineOf (i : grid0.Coords) : IVec S2x384 1 :=
  let arg0 : BitVec 32 := BitVec.ofNat 32 (i 0).val
  let v7666 : IVec S2x384 32 := iota .tc S2x384 32 [0] iota_S2x384_d0_w32
  let c384_i32 : BitVec 32 := 384#32
  let v7667 : IVec S2x384 32 := broadcast S2x384 c384_i32
  let v7668 : IVec S2x384 32 := muli v7666 v7667
  let v7669 : IVec S2x384 32 := iota .tc S2x384 32 [1] iota_S2x384_d1_w32
  let v7670 : IVec S2x384 32 := addi v7668 v7669
  let c32_i32_3984 : BitVec 32 := 32#32
  let v7671 : BitVec 32 := Scalar.muli arg0 c32_i32_3984
  let v7672 : IVec S2x384 32 := broadcast S2x384 v7671
  let v7673 : IVec S2x384 1 := cmpi .sge v7670 v7672
  let c1_i32_3985 : BitVec 32 := 1#32
  let v7674 : BitVec 32 := Scalar.addi arg0 c1_i32_3985
  let c32_i32_3986 : BitVec 32 := 32#32
  let v7675 : BitVec 32 := Scalar.muli v7674 c32_i32_3986
  let v7676 : IVec S2x384 32 := broadcast S2x384 v7675
  let v7677 : IVec S2x384 1 := cmpi .slt v7670 v7676
  let v7678 : IVec S2x384 1 := andi v7673 v7677
  v7678

/-- The block of scales with this grid point's written over. -/
def mergeOf (v7678 : IVec S2x384 1) (v7680 : FVec F S2x384 .f32) (v7681 : Vec F S2x384 .f32) : FVec F S2x384 .f32 :=
  let v7682 : FVec F S2x384 .f32 := shapeCast S2x384 v7681 shapeCasts_S2x384_S2x384
  select v7678 v7680 v7682

/-- An accumulator's rows summed. -/
def colOf (v7688 : Vec F S8x16384 .f32) : FVec F S1x16384 .f32 :=
  let v7689 : FVec F S16384 .f32 := multiReduction .add [0] S16384 v7688 0x00000000#32 reduces_S8x16384_S16384 (.inl rfl) rfl
  shapeCast S1x16384 v7689 shapeCasts_S16384_S1x16384

/-- A zero accumulator. -/
def zero8 : FVec F S8x16384 .f32 :=
  let cst_3993 : F .f32 := Scalar.ofBits .f32 0x00000000#32
  let v7688 : FVec F S8x16384 .f32 := broadcast S8x16384 cst_3993
  shapeCast S8x16384 v7688 shapeCasts_S8x16384_S8x16384

/-- Whether this is the first grid point. -/
def isFirst (i : grid0.Coords) : BitVec 1 :=
  let arg0 : BitVec 32 := BitVec.ofNat 32 (i 0).val
  Scalar.cmpi .ne (Scalar.extui (Scalar.cmpi .eq arg0 0#32)) 0#32

/-! ## The program -/

/-- A counted loop: `f` at `0, 1, …, N - 1`, carrying a value. -/
def loop {σ : Type} (N : Nat) (f : (c : Nat) → c < N → σ → Prog (TpuEff nD τ sig (Elt F) Λ₀ .tc) σ) (n : Nat) :
    n ≤ N → σ → Prog (TpuEff nD τ sig (Elt F) Λ₀ .tc) σ :=
  Nat.rec (motive := fun n => n ≤ N → σ → Prog (TpuEff nD τ sig (Elt F) Λ₀ .tc) σ) (fun _ a => pure a)
    (fun n ih h a => f (N - (n + 1)) (by omega) a >>= ih (by omega)) n

section
variable (i : grid0.Coords) (arg1 : Memref sig .tc .vmem S8x32x16384 .fp8e5m2) (arg2 : Memref sig .tc .vmem S8x2x384 .f32)
  (arg3 : Memref sig .tc .vmem S32x16384 .bf16) (arg4 : Memref sig .tc .vmem S1x16384 .f32) (arg5 : Memref sig .tc .vmem S32x16384 .bf16)
  (arg6 : Memref sig .tc .vmem S32x16384 .bf16) (harg6 : arg6.IsWhole) (arg7 : Memref sig .tc .vmem S1x16384 .f32)
  (arg8 : Memref sig .tc .vmem S1x16384 .f32) (arg9 : Memref sig .tc .vmem S32x16384 .fp8e5m2) (harg9 : arg9.IsWhole)
  (arg10 : Memref sig .tc .vmem S2x384 .f32) (arg11 : Memref sig .tc .vmem S32x16384 .f32)
  (arg12 : Memref sig .tc .vmem S8x16384 .f32) (arg13 : Memref sig .tc .vmem S8x16384 .f32)

/-- The accumulators set to zero at the first grid point. -/
def first : Prog (TpuEff nD τ sig (Elt F) Λ₀ .tc) PUnit :=
  if _h : isFirst i = 1#1 then do
    let _ ← Prog.lift (.load arg12 (Rect.unit (s := S8x16384) ![0, 0] S8x16384.size inb_S8x16384_S8x16384_0_0).toLoadRect (View.loadsAt_vmem h_S8x16384))
    Prog.lift (.store arg12 (Rect.unit (s := S8x16384) ![0, 0] S8x16384.size inb_S8x16384_S8x16384_0_0) zero8 Finset.univ (View.stores_vmem_bits_univ h_S8x16384 rfl) (.inl rfl))
    let _ ← Prog.lift (.load arg13 (Rect.unit (s := S8x16384) ![0, 0] S8x16384.size inb_S8x16384_S8x16384_0_0).toLoadRect (View.loadsAt_vmem h_S8x16384))
    Prog.lift (.store arg13 (Rect.unit (s := S8x16384) ![0, 0] S8x16384.size inb_S8x16384_S8x16384_0_0) zero8 Finset.univ (View.stores_vmem_bits_univ h_S8x16384 rfl) (.inl rfl))
    pure ⟨⟩
  else do
    pure ⟨⟩

/-- One lane chunk of the first loop. -/
def laneA (k : Nat) (hk : k < 128) (g : FVec F S32x128 .f32) (a : FVec F S32x128 .f32 × FVec F S32x128 .f32) :
    Prog (TpuEff nD τ sig (Elt F) Λ₀ .tc) (FVec F S32x128 .f32 × FVec F S32x128 .f32) := do
  let x : Vec F S32x128 .bf16 ← Prog.lift (.load arg3 (r32 k hk).toLoadRect (View.loadsAt_vmem h_S32x128))
  let y : Vec F S1x128 .f32 ← Prog.lift (.load arg4 (r1 k hk).toLoadRect (View.loadsAt_vmem h_S1x128))
  pure (msqOf a.1 x, cdotOf a.2 g x y)

/-- One chunk of the first loop: the scaled parts summed, then the row sums over its four lane chunks. -/
def stepA (lhs : FVec F S32x256 .bf16) (c : Nat) (hc : c < 32) (a : FVec F S32x128 .f32 × FVec F S32x128 .f32) :
    Prog (TpuEff nD τ sig (Elt F) Λ₀ .tc) (FVec F S32x128 .f32 × FVec F S32x128 .f32) := do
  let p : Vec F S8x32x512 .fp8e5m2 ← Prog.lift (.load arg1 (rP c hc).toLoadRect (View.loadsAt_vmem h_S8x32x512))
  let _ ← Prog.lift (.load arg11 (r512 c hc).toLoadRect (View.loadsAt_vmem h_S32x512))
  Prog.lift (.store arg11 (r512 c hc) (shapeCast S32x512 (gOf lhs p) shapeCasts_S32x512_S32x512) Finset.univ (View.stores_vmem_bits_univ h_S32x512 rfl) (.inl rfl))
  let a ← laneA arg3 arg4 (4 * c) (by omega) (extractStridedSlice S32x128 ![0, 0] (gOf lhs p) slices_S32x512_o0_0_S32x128) a
  let a ← laneA arg3 arg4 (4 * c + 1) (by omega) (extractStridedSlice S32x128 ![0, 128] (gOf lhs p) slices_S32x512_o0_128_S32x128) a
  let a ← laneA arg3 arg4 (4 * c + 2) (by omega) (extractStridedSlice S32x128 ![0, 256] (gOf lhs p) slices_S32x512_o0_256_S32x128) a
  laneA arg3 arg4 (4 * c + 3) (by omega) (extractStridedSlice S32x128 ![0, 384] (gOf lhs p) slices_S32x512_o0_384_S32x128) a

/-- One chunk of the second loop: the gradient, its column sums, and the running maximum. -/
def stepB (k1 k2 : FVec F S32x128 .f32) (k : Nat) (hk : k < 128) (amax : FVec F S32x128 .bf16) :
    Prog (TpuEff nD τ sig (Elt F) Λ₀ .tc) (FVec F S32x128 .bf16) := do
  let x : Vec F S32x128 .bf16 ← Prog.lift (.load arg3 (r32 k hk).toLoadRect (View.loadsAt_vmem h_S32x128))
  let g : Vec F S32x128 .f32 ← Prog.lift (.load arg11 (r32 k hk).toLoadRect (View.loadsAt_vmem h_S32x128))
  let y : Vec F S1x128 .f32 ← Prog.lift (.load arg4 (r1 k hk).toLoadRect (View.loadsAt_vmem h_S1x128))
  let z : Vec F S32x128 .bf16 ← Prog.lift (.load arg5 (r32 k hk).toLoadRect (View.loadsAt_vmem h_S32x128))
  let u : Vec F S8x128 .f32 ← Prog.lift (.load arg12 (r8 k hk).toLoadRect (View.loadsAt_vmem h_S8x128))
  let _ ← Prog.lift (.load arg12 (r8 k hk).toLoadRect (View.loadsAt_vmem h_S8x128))
  Prog.lift (.store arg12 (r8 k hk) (accOf u (dgtOf k1 x g)) Finset.univ (View.stores_vmem_bits_univ h_S8x128 rfl) (.inl rfl))
  let v : Vec F S8x128 .f32 ← Prog.lift (.load arg13 (r8 k hk).toLoadRect (View.loadsAt_vmem h_S8x128))
  let _ ← Prog.lift (.load arg13 (r8 k hk).toLoadRect (View.loadsAt_vmem h_S8x128))
  Prog.lift (.store arg13 (r8 k hk) (accOf v (dhOf k1 k2 x g y z)) Finset.univ (View.stores_vmem_bits_univ h_S8x128 rfl) (.inl rfl))
  let _ ← Prog.lift (.load arg6 (r32 k hk).toLoadRect (View.loadsAt_vmem h_S32x128))
  Prog.lift (.store arg6 (r32 k hk) (gxOf (dhOf k1 k2 x g y z)) Finset.univ (View.stores_vmem h_S32x128 (harg6.storeExact_slice rfl _ (packed16 k hk)) (fun _ => rfl)) (.inl rfl))
  pure (amaxOf amax (gxOf (dhOf k1 k2 x g y z)))

/-- One chunk of the third loop: the codes. -/
def stepC (inv : FVec F S32x128 .bf16) (k : Nat) (hk : k < 128) (u : PUnit) : Prog (TpuEff nD τ sig (Elt F) Λ₀ .tc) PUnit := do
  let x : Vec F S32x128 .bf16 ← Prog.lift (.load arg6 (r32 k hk).toLoadRect (View.loadsAt_vmem h_S32x128))
  let _ ← Prog.lift (.load arg9 (r32 k hk).toLoadRect (View.loadsAt_vmem h_S32x128))
  Prog.lift (.store arg9 (r32 k hk) (codeOf inv x) Finset.univ (View.stores_vmem h_S32x128 (harg9.storeExact_slice rfl _ (packed8 k hk)) (fun _ => rfl)) (.inl rfl))

/-- The column sums written out at the last grid point. -/
def last : Prog (TpuEff nD τ sig (Elt F) Λ₀ .tc) PUnit := do
  if _h : k0_cond2 i = 1#1 then do
    let u : Vec F S8x16384 .f32 ← Prog.lift (.load arg12 (Rect.unit (s := S8x16384) ![0, 0] S8x16384.size inb_S8x16384_S8x16384_0_0).toLoadRect (View.loadsAt_vmem h_S8x16384))
    let _ ← Prog.lift (.load arg7 (Rect.unit (s := S1x16384) ![0, 0] S1x16384.size inb_S1x16384_S1x16384_0_0).toLoadRect (View.loadsAt_vmem h_S1x16384))
    Prog.lift (.store arg7 (Rect.unit (s := S1x16384) ![0, 0] S1x16384.size inb_S1x16384_S1x16384_0_0) (colOf u) Finset.univ (View.stores_vmem_bits_univ h_S1x16384 rfl) (.inl rfl))
    let v : Vec F S8x16384 .f32 ← Prog.lift (.load arg13 (Rect.unit (s := S8x16384) ![0, 0] S8x16384.size inb_S8x16384_S8x16384_0_0).toLoadRect (View.loadsAt_vmem h_S8x16384))
    let _ ← Prog.lift (.load arg8 (Rect.unit (s := S1x16384) ![0, 0] S1x16384.size inb_S1x16384_S1x16384_0_0).toLoadRect (View.loadsAt_vmem h_S1x16384))
    Prog.lift (.store arg8 (Rect.unit (s := S1x16384) ![0, 0] S1x16384.size inb_S1x16384_S1x16384_0_0) (colOf v) Finset.univ (View.stores_vmem_bits_univ h_S1x16384 rfl) (.inl rfl))
    pure ⟨⟩
  else do
    pure ⟨⟩
  pure ⟨⟩

/-- The block of scales read, merged and written back. -/
def scales (v6497 : FVec F S32x128 .f32) : Prog (TpuEff nD τ sig (Elt F) Λ₀ .tc) PUnit := do
  let u : Vec F S2x384 .f32 ← Prog.lift (.load arg10 (Rect.unit (s := S2x384) ![0, 0] S2x384.size inb_S2x384_S2x384_0_0).toLoadRect (View.loadsAt_vmem h_S2x384))
  let _ ← Prog.lift (.load arg10 (Rect.unit (s := S2x384) ![0, 0] S2x384.size inb_S2x384_S2x384_0_0).toLoadRect (View.loadsAt_vmem h_S2x384))
  Prog.lift (.store arg10 (Rect.unit (s := S2x384) ![0, 0] S2x384.size inb_S2x384_S2x384_0_0) (mergeOf (mineOf i) (rowOf v6497) u) Finset.univ (View.stores_vmem_bits_univ h_S2x384 rfl) (.inl rfl))

/-- Everything after the first grid point's zeros. -/
def rest : Prog (TpuEff nD τ sig (Elt F) Λ₀ .tc) PUnit := do
  let sc : Vec F S8x2x128 .f32 ← Prog.lift (.load arg2 (Rect.unit (s := S8x2x384) (k0_off1 i) S8x2x128.size (k0_off1_inb i)).toLoadRect (View.loadsAt_vmem h_S8x2x128))
  let a ← loop 32 (stepA arg1 arg3 arg4 arg11 (lhsOf (rot i sc))) 32 (Nat.le_refl _) (zero32, zero32)
  let amax ← loop 128 (stepB arg3 arg4 arg5 arg6 harg6 arg11 arg12 arg13 (k1Of a.1) (k2Of a.1 a.2)) 128 (Nat.le_refl _) zero16
  let _ ← loop 128 (stepC arg6 arg9 harg9 (invOf (expOf (fieldOf (qOf amax))))) 128 (Nat.le_refl _) ⟨⟩
  scales i arg10 (scaleOf (expOf (fieldOf (qOf amax))))
  last i arg7 arg8 arg12 arg13

end

end Cert.KernelIdeal.Str
-- ==== Proof.ProgEq.lean ====
module

public import proofs.«01_k».proof.Proof.Prog

@[expose] public section

/-! The printed body is the structured one: reassociate the first conditional, then both sides compute
to the same sequence of loads and stores. -/

noncomputable section

namespace Cert.KernelIdeal.Str

open Idealize.ShloMosaic Idealize.SL.Sem Idealize.ShloMosaic.Tactic
open Cert.KernelIdeal.Gen

variable {F : FTy → Type} [FloatOps F]

/-- The scalars the first part hands on. -/
def tup (i : grid0.Coords) : Σ' (arg0 : BitVec 32) (v16 : BitVec 32) (v26 : BitVec 32) (c4_i32 : BitVec 32) (v30 : BitVec 32) (v35 : BitVec 32) (v37 : BitVec 32), BitVec 32 :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v30 : BitVec 32 := Scalar.divsi v26 c4_i32
  let c0_i32_12 : BitVec 32 := 0#32
  let v31 : BitVec 1 := Scalar.cmpi .sgt v26 c0_i32_12
  let v32 : BitVec 32 := Scalar.extui v31
  let c0_i32_13 : BitVec 32 := 0#32
  let v33 : BitVec 1 := Scalar.cmpi .slt v26 c0_i32_13
  let v34 : BitVec 32 := Scalar.extui v33
  let v35 : BitVec 32 := Scalar.subi v32 v34
  let c0_i32_14 : BitVec 32 := 0#32
  let v36 : BitVec 1 := Scalar.cmpi .sgt c4_i32 c0_i32_14
  let v37 : BitVec 32 := Scalar.extui v36
  let c0_i32_15 : BitVec 32 := 0#32
  ⟨arg0, v16, v26, c4_i32, v30, v35, v37, c0_i32_15⟩

theorem part1_eq (i : grid0.Coords) (arg1 : Memref sig .tc .vmem S8x32x16384 .fp8e5m2) (harg1 : arg1.IsWhole) (arg2 : Memref sig .tc .vmem S8x2x384 .f32) (harg2 : arg2.IsWhole)
  (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole)
  (arg6 : Memref sig .tc .vmem S32x16384 .bf16) (harg6 : arg6.IsWhole) (arg7 : Memref sig .tc .vmem S1x16384 .f32) (harg7 : arg7.IsWhole)
  (arg8 : Memref sig .tc .vmem S1x16384 .f32) (harg8 : arg8.IsWhole) (arg9 : Memref sig .tc .vmem S32x16384 .fp8e5m2) (harg9 : arg9.IsWhole)
  (arg10 : Memref sig .tc .vmem S2x384 .f32) (harg10 : arg10.IsWhole) (arg11 : Memref sig .tc .vmem S32x16384 .f32) (harg11 : arg11.IsWhole)
  (arg12 : Memref sig .tc .vmem S8x16384 .f32) (harg12 : arg12.IsWhole) (arg13 : Memref sig .tc .vmem S8x16384 .f32) (harg13 : arg13.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13
      = dite (isFirst i = 1#1) (fun _ => do
          let _ ← Prog.lift (.load arg12 (Rect.unit (s := S8x16384) ![0, 0] S8x16384.size inb_S8x16384_S8x16384_0_0).toLoadRect (View.loadsAt_vmem h_S8x16384))
          Prog.lift (.store arg12 (Rect.unit (s := S8x16384) ![0, 0] S8x16384.size inb_S8x16384_S8x16384_0_0) zero8 Finset.univ (View.stores_vmem_bits_univ h_S8x16384 rfl) (.inl rfl))
          let _ ← Prog.lift (.load arg13 (Rect.unit (s := S8x16384) ![0, 0] S8x16384.size inb_S8x16384_S8x16384_0_0).toLoadRect (View.loadsAt_vmem h_S8x16384))
          Prog.lift (.store arg13 (Rect.unit (s := S8x16384) ![0, 0] S8x16384.size inb_S8x16384_S8x16384_0_0) zero8 Finset.univ (View.stores_vmem_bits_univ h_S8x16384 rfl) (.inl rfl))
          pure (tup i)) (fun _ => pure (tup i)) := by
  sl_kernel_rfl

set_option maxRecDepth 100000 in
theorem cc0_eq (i : grid0.Coords) (arg1 : Memref sig .tc .vmem S8x32x16384 .fp8e5m2) (harg1 : arg1.IsWhole) (arg2 : Memref sig .tc .vmem S8x2x384 .f32) (harg2 : arg2.IsWhole)
  (arg3 : Memref sig .tc .vmem S32x16384 .bf16) (harg3 : arg3.IsWhole) (arg4 : Memref sig .tc .vmem S1x16384 .f32) (harg4 : arg4.IsWhole) (arg5 : Memref sig .tc .vmem S32x16384 .bf16) (harg5 : arg5.IsWhole)
  (arg6 : Memref sig .tc .vmem S32x16384 .bf16) (harg6 : arg6.IsWhole) (arg7 : Memref sig .tc .vmem S1x16384 .f32) (harg7 : arg7.IsWhole)
  (arg8 : Memref sig .tc .vmem S1x16384 .f32) (harg8 : arg8.IsWhole) (arg9 : Memref sig .tc .vmem S32x16384 .fp8e5m2) (harg9 : arg9.IsWhole)
  (arg10 : Memref sig .tc .vmem S2x384 .f32) (harg10 : arg10.IsWhole) (arg11 : Memref sig .tc .vmem S32x16384 .f32) (harg11 : arg11.IsWhole)
  (arg12 : Memref sig .tc .vmem S8x16384 .f32) (harg12 : arg12.IsWhole) (arg13 : Memref sig .tc .vmem S8x16384 .f32) (harg13 : arg13.IsWhole) :
    cc0_rmsnorm_bwd_e5m2 (F := F) i arg1 harg1 arg2 harg2 arg3 harg3 arg4 harg4 arg5 harg5 arg6 harg6 arg7 harg7 arg8 harg8 arg9 harg9 arg10 harg10 arg11 harg11 arg12 harg12 arg13 harg13
      = first i arg12 arg13 >>= fun _ => rest i arg1 arg2 arg3 arg4 arg5 arg6 harg6 arg7 arg8 arg9 harg9 arg10 arg11 arg12 arg13 := by
  unfold cc0_rmsnorm_bwd_e5m2 k0_part207 first
  rw [part1_eq]
  by_cases hc : isFirst i = 1#1
  · rw [dif_pos hc, dif_pos hc]
    sl_kernel_rfl
  · rw [dif_neg hc, dif_neg hc]
    sl_kernel_rfl

end Cert.KernelIdeal.Str
-- ==== Proof.Triple.lean ====
module

public import proofs.«01_k».proof.Proof.ProgEq
public import proofs.«01_k».proof.Proof.Gen.KernelIdeal.Frame

@[expose] public section

/-! What a piece of the body does, as a function on the contents of the thirteen buffers it is handed:
`Tr p σ a σ'` says that from contents `σ` the program `p` returns `a` and leaves contents `σ'`. -/

noncomputable section

namespace Cert.KernelIdeal.Str

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## One load, one store -/

/-- What a load through `r` reads of contents `X`. -/
def rd {s : Shape} {α : Type} (r : Rect s) (X : s.Idx → α) : r.shape.Idx → α := fun x => X (r.emb x)

theorem load1 (c : Dev nD) (E : Set ℕ) {s : Shape} {e : EltTy} (m : Memref sig .tc .vmem s e) (r : Rect s)
    (hl : m.view.LoadsAt r.toLoadRect) (X : s.Idx → Elt F e) (K : (r.toLoadRect.shape.Idx → Elt F e) → sProp 𝕄) :
    iprop(owns (c : Thread nD τ) m fullShare X ∗ (owns (c : Thread nD τ) m fullShare X -∗ K (rd r X)))
      ⊢ wp frame (wpE (defs₀ (F := F)) Variants.none c none) E (Prog.lift (.load m r.toLoadRect hl)) K := by
  unfold owns
  iintro ⟨⟨%f, %hf, H⟩, HK⟩
  unfold Prog.lift
  iapply (wp_load_rect (defs := defs₀ (F := F)) Variants.none (c : Thread nD τ) none E (r := r) (k := fun x => Prog.ret x) (m.view.set_slice_subset r)) $$ H
  iintro H
  simp only [wp_ret]
  imodintro
  have : (m.access r).read (Elt F) f = rd r X := by subst hf; rfl
  rw [this]
  iapply HK
  iexists f
  isplitr
  · ipureintro; exact hf
  · iexact H

theorem read_write_access {s : Shape} {e : EltTy} (m : Memref sig .tc .vmem s e) (r : Rect s) (f : m.view.ty.Contents (Elt F))
    (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    rw [show r.idx i = r.emb i from rfl, Rect.overlay_emb]
    exact View.read_slice_write_emb (h := Finset.mem_univ i) ..
  · rw [Rect.overlay_of_not_mem _ _ _ hj]
    exact View.read_slice_write_of_not_mem (h := fun h => hj (by rwa [show Finset.univ.map r.emb = r.set from r.map_emb_univ] at h)) ..

theorem store1 (c : Dev nD) (E : Set ℕ) {s : Shape} {e : EltTy} (m : Memref sig .tc .vmem s e) (r : Rect s) (w : r.shape.Idx → Elt F e)
    (hx : (m.access r).Stores Finset.univ) (hm : Finset.univ = Finset.univ ∨ ∀ a, r.stride a = 1)
    (X : s.Idx → Elt F e) (K : PUnit → sProp 𝕄) :
    iprop(owns (c : Thread nD τ) m fullShare X ∗ (owns (c : Thread nD τ) m fullShare (r.overlay X w) -∗ K ⟨⟩))
      ⊢ wp frame (wpE (defs₀ (F := F)) Variants.none c none) E (Prog.lift (.store m r w Finset.univ hx hm)) K := by
  unfold owns
  iintro ⟨⟨%f, %hf, H⟩, HK⟩
  unfold Prog.lift
  iapply (wp_store (defs := defs₀ (F := F)) Variants.none (c : Thread nD τ) none E (r := r) (w := w) (hx := hx) (hm := hm) (Mk := Finset.univ) (f := f) (k := fun x => Prog.ret x) (m.view.set_slice_subset r)) $$ H
  iintro H
  simp only [wp_ret]
  imodintro
  iapply HK
  iexists _
  isplitr
  swap
  · iexact H
  · ipureintro; rw [← hf]; exact read_write_access m r f w

/-! ## The thirteen buffers -/

variable (F) in
/-- Contents of the buffers the body is handed: the five inputs' blocks, the five outputs' blocks, the scratch. -/
structure St where
  /-- the parts' codes -/
  pt : S8x32x16384.Idx → Elt F .fp8e5m2
  /-- the parts' scales -/
  sc : S8x2x384.Idx → Elt F .f32
  /-- the normalised input -/
  r : S32x16384.Idx → Elt F .bf16
  /-- the gain -/
  ga : S1x16384.Idx → Elt F .f32
  /-- the residual's gradient -/
  gr : S32x16384.Idx → Elt F .bf16
  /-- the gradient of the input -/
  gx : S32x16384.Idx → Elt F .bf16
  /-- the gain's gradient -/
  dg : S1x16384.Idx → Elt F .f32
  /-- the bias's gradient -/
  db : S1x16384.Idx → Elt F .f32
  /-- the codes -/
  cd : S32x16384.Idx → Elt F .fp8e5m2
  /-- the scales -/
  sl : S2x384.Idx → Elt F .f32
  /-- the summed parts -/
  g : S32x16384.Idx → Elt F .f32
  /-- the gain gradient's accumulator -/
  ag : S8x16384.Idx → Elt F .f32
  /-- the bias gradient's accumulator -/
  ab : S8x16384.Idx → Elt F .f32

/-- The thirteen memrefs. -/
structure Ar where
  /-- the parts' codes -/
  pt : Memref sig .tc .vmem S8x32x16384 .fp8e5m2
  /-- the parts' scales -/
  sc : Memref sig .tc .vmem S8x2x384 .f32
  /-- the normalised input -/
  r : Memref sig .tc .vmem S32x16384 .bf16
  /-- the gain -/
  ga : Memref sig .tc .vmem S1x16384 .f32
  /-- the residual's gradient -/
  gr : Memref sig .tc .vmem S32x16384 .bf16
  /-- the gradient of the input -/
  gx : Memref sig .tc .vmem S32x16384 .bf16
  /-- it is a whole buffer -/
  hgx : gx.IsWhole
  /-- the gain's gradient -/
  dg : Memref sig .tc .vmem S1x16384 .f32
  /-- the bias's gradient -/
  db : Memref sig .tc .vmem S1x16384 .f32
  /-- the codes -/
  cd : Memref sig .tc .vmem S32x16384 .fp8e5m2
  /-- it is a whole buffer -/
  hcd : cd.IsWhole
  /-- the scales -/
  sl : Memref sig .tc .vmem S2x384 .f32
  /-- the summed parts -/
  g : Memref sig .tc .vmem S32x16384 .f32
  /-- the gain gradient's accumulator -/
  ag : Memref sig .tc .vmem S8x16384 .f32
  /-- the bias gradient's accumulator -/
  ab : Memref sig .tc .vmem S8x16384 .f32

/-- Core `c` owns the thirteen buffers at contents `σ`. -/
def Own (c : Dev nD) (A : Ar) (σ : St F) : sProp 𝕄 :=
  iprop(owns (c : Thread nD τ) A.pt fullShare σ.pt ∗ owns (c : Thread nD τ) A.sc fullShare σ.sc ∗ owns (c : Thread nD τ) A.r fullShare σ.r
    ∗ owns (c : Thread nD τ) A.ga fullShare σ.ga ∗ owns (c : Thread nD τ) A.gr fullShare σ.gr ∗ owns (c : Thread nD τ) A.gx fullShare σ.gx
    ∗ owns (c : Thread nD τ) A.dg fullShare σ.dg ∗ owns (c : Thread nD τ) A.db fullShare σ.db ∗ owns (c : Thread nD τ) A.cd fullShare σ.cd
    ∗ owns (c : Thread nD τ) A.sl fullShare σ.sl ∗ owns (c : Thread nD τ) A.g fullShare σ.g ∗ owns (c : Thread nD τ) A.ag fullShare σ.ag
    ∗ owns (c : Thread nD τ) A.ab fullShare σ.ab)

/-- `p` takes contents `σ` to `σ'` and returns `a`. -/
def Tr {α : Type} (A : Ar) (p : Prog (TpuEff nD τ sig (Elt F) Λ₀ .tc) α) (σ : St F) (a : α) (σ' : St F) : Prop :=
  ∀ (c : Dev nD) (K : α → sProp 𝕄), iprop(Own c A σ ∗ (Own c A σ' -∗ K a))
    ⊢ wp frame (wpE (defs₀ (F := F)) Variants.none c none) Set.univ p K

theorem Tr.pure {α : Type} (A : Ar) (σ : St F) (a : α) : Tr A (pure a) σ a σ := by
  intro c K
  iintro ⟨H, HK⟩
  simp only [wp_pure]
  imodintro
  iapply HK; iexact H

theorem Tr.bind {α β : Type} {A : Ar} {p : Prog (TpuEff nD τ sig (Elt F) Λ₀ .tc) α} {k : α → Prog (TpuEff nD τ sig (Elt F) Λ₀ .tc) β}
    {σ σ' σ'' : St F} {a : α} {b : β} (hp : Tr A p σ a σ') (hk : Tr A (k a) σ' b σ'') : Tr A (p >>= k) σ b σ'' := by
  intro c K
  rw [wp_bind]
  refine .trans ?_ (hp c _)
  iintro ⟨H, HK⟩
  isplitl [H]
  · iexact H
  · iintro H
    iapply (hk c K)
    isplitl [H]
    · iexact H
    · iexact HK

/-- A buffer among the thirteen: it can be taken out, and put back at any contents. -/
def Foc (A : Ar) {s : Shape} {e : EltTy} (m : Memref sig .tc .vmem s e) (get : St F → s.Idx → Elt F e)
    (set : St F → (s.Idx → Elt F e) → St F) : Prop :=
  ∀ (c : Dev nD) (σ : St F), (Own c A σ : sProp 𝕄)
    ⊢ iprop(owns (c : Thread nD τ) m fullShare (get σ) ∗ (∀ Y, owns (c : Thread nD τ) m fullShare Y -∗ Own c A (set σ Y)))

theorem Foc.load {A : Ar} {s : Shape} {e : EltTy} {m : Memref sig .tc .vmem s e} {get : St F → s.Idx → Elt F e}
    {set : St F → (s.Idx → Elt F e) → St F} (h : Foc A m get set) (hid : ∀ σ, set σ (get σ) = σ) (r : Rect s)
    (hl : m.view.LoadsAt r.toLoadRect) (σ : St F) :
    Tr A (Prog.lift (.load m r.toLoadRect hl)) σ (rd r (get σ)) σ := by
  intro c K
  iintro ⟨H, HK⟩
  ihave H := h c σ $$ H
  icases H with ⟨H, Hb⟩
  iapply (load1 c Set.univ m r hl (get σ) K)
  isplitl [H]
  · iexact H
  · iintro H
    iapply HK
    rw [← congrArg (Own c A) (hid σ)]
    iapply Hb
    iexact H

theorem Foc.store {A : Ar} {s : Shape} {e : EltTy} {m : Memref sig .tc .vmem s e} {get : St F → s.Idx → Elt F e}
    {set : St F → (s.Idx → Elt F e) → St F} (h : Foc A m get set) (r : Rect s) (w : r.shape.Idx → Elt F e)
    (hx : (m.access r).Stores Finset.univ) (hm : Finset.univ = Finset.univ ∨ ∀ a, r.stride a = 1) (σ : St F) :
    Tr A (Prog.lift (.store m r w Finset.univ hx hm)) σ ⟨⟩ (set σ (r.overlay (get σ) w)) := by
  intro c K
  iintro ⟨H, HK⟩
  ihave H := h c σ $$ H
  icases H with ⟨H, Hb⟩
  iapply (store1 c Set.univ m r w hx hm (get σ) K)
  isplitl [H]
  · iexact H
  · iintro H
    iapply HK
    iapply Hb
    iexact H

theorem foc_pt (A : Ar) : Foc (F := F) A A.pt St.pt (fun σ Y => { σ with pt := Y }) := by
  intro c σ; unfold Own
  iintro ⟨H1, H2, H3, H4, H5, H6, H7, H8, H9, H10, H11, H12, H13⟩
  iframe H1
  iintro %Y H1; iframe H1 H2 H3 H4 H5 H6 H7 H8 H9 H10 H11 H12 H13

theorem foc_sc (A : Ar) : Foc (F := F) A A.sc St.sc (fun σ Y => { σ with sc := Y }) := by
  intro c σ; unfold Own
  iintro ⟨H1, H2, H3, H4, H5, H6, H7, H8, H9, H10, H11, H12, H13⟩
  iframe H2
  iintro %Y H2; iframe H1 H2 H3 H4 H5 H6 H7 H8 H9 H10 H11 H12 H13

theorem foc_r (A : Ar) : Foc (F := F) A A.r St.r (fun σ Y => { σ with r := Y }) := by
  intro c σ; unfold Own
  iintro ⟨H1, H2, H3, H4, H5, H6, H7, H8, H9, H10, H11, H12, H13⟩
  iframe H3
  iintro %Y H3; iframe H1 H2 H3 H4 H5 H6 H7 H8 H9 H10 H11 H12 H13

theorem foc_ga (A : Ar) : Foc (F := F) A A.ga St.ga (fun σ Y => { σ with ga := Y }) := by
  intro c σ; unfold Own
  iintro ⟨H1, H2, H3, H4, H5, H6, H7, H8, H9, H10, H11, H12, H13⟩
  iframe H4
  iintro %Y H4; iframe H1 H2 H3 H4 H5 H6 H7 H8 H9 H10 H11 H12 H13

theorem foc_gr (A : Ar) : Foc (F := F) A A.gr St.gr (fun σ Y => { σ with gr := Y }) := by
  intro c σ; unfold Own
  iintro ⟨H1, H2, H3, H4, H5, H6, H7, H8, H9, H10, H11, H12, H13⟩
  iframe H5
  iintro %Y H5; iframe H1 H2 H3 H4 H5 H6 H7 H8 H9 H10 H11 H12 H13

theorem foc_gx (A : Ar) : Foc (F := F) A A.gx St.gx (fun σ Y => { σ with gx := Y }) := by
  intro c σ; unfold Own
  iintro ⟨H1, H2, H3, H4, H5, H6, H7, H8, H9, H10, H11, H12, H13⟩
  iframe H6
  iintro %Y H6; iframe H1 H2 H3 H4 H5 H6 H7 H8 H9 H10 H11 H12 H13

theorem foc_dg (A : Ar) : Foc (F := F) A A.dg St.dg (fun σ Y => { σ with dg := Y }) := by
  intro c σ; unfold Own
  iintro ⟨H1, H2, H3, H4, H5, H6, H7, H8, H9, H10, H11, H12, H13⟩
  iframe H7
  iintro %Y H7; iframe H1 H2 H3 H4 H5 H6 H7 H8 H9 H10 H11 H12 H13

theorem foc_db (A : Ar) : Foc (F := F) A A.db St.db (fun σ Y => { σ with db := Y }) := by
  intro c σ; unfold Own
  iintro ⟨H1, H2, H3, H4, H5, H6, H7, H8, H9, H10, H11, H12, H13⟩
  iframe H8
  iintro %Y H8; iframe H1 H2 H3 H4 H5 H6 H7 H8 H9 H10 H11 H12 H13

theorem foc_cd (A : Ar) : Foc (F := F) A A.cd St.cd (fun σ Y => { σ with cd := Y }) := by
  intro c σ; unfold Own
  iintro ⟨H1, H2, H3, H4, H5, H6, H7, H8, H9, H10, H11, H12, H13⟩
  iframe H9
  iintro %Y H9; iframe H1 H2 H3 H4 H5 H6 H7 H8 H9 H10 H11 H12 H13

theorem foc_sl (A : Ar) : Foc (F := F) A A.sl St.sl (fun σ Y => { σ with sl := Y }) := by
  intro c σ; unfold Own
  iintro ⟨H1, H2, H3, H4, H5, H6, H7, H8, H9, H10, H11, H12, H13⟩
  iframe H10
  iintro %Y H10; iframe H1 H2 H3 H4 H5 H6 H7 H8 H9 H10 H11 H12 H13

theorem foc_g (A : Ar) : Foc (F := F) A A.g St.g (fun σ Y => { σ with g := Y }) := by
  intro c σ; unfold Own
  iintro ⟨H1, H2, H3, H4, H5, H6, H7, H8, H9, H10, H11, H12, H13⟩
  iframe H11
  iintro %Y H11; iframe H1 H2 H3 H4 H5 H6 H7 H8 H9 H10 H11 H12 H13

theorem foc_ag (A : Ar) : Foc (F := F) A A.ag St.ag (fun σ Y => { σ with ag := Y }) := by
  intro c σ; unfold Own
  iintro ⟨H1, H2, H3, H4, H5, H6, H7, H8, H9, H10, H11, H12, H13⟩
  iframe H12
  iintro %Y H12; iframe H1 H2 H3 H4 H5 H6 H7 H8 H9 H10 H11 H12 H13

theorem foc_ab (A : Ar) : Foc (F := F) A A.ab St.ab (fun σ Y => { σ with ab := Y }) := by
  intro c σ; unfold Own
  iintro ⟨H1, H2, H3, H4, H5, H6, H7, H8, H9, H10, H11, H12, H13⟩
  iframe H13
  iintro %Y H13; iframe H1 H2 H3 H4 H5 H6 H7 H8 H9 H10 H11 H12 H13

end Cert.KernelIdeal.Str
-- ==== Proof.Body.lean ====
module

public import proofs.«01_k».proof.Proof.Triple
public import Idealize.ShloMosaic.Lib.ValueIdxCore
public import Idealize.ShloMosaic.Lib.Pipeline.Value

@[expose] public section

/-! The body as a function on the buffers: the three loops over column chunks in closed form. Chunk `k` of
a wide block is its columns `w k … w k + w - 1`. -/

noncomputable section

namespace Cert.KernelIdeal.Str

open Idealize.ShloMosaic Idealize.ShloMosaic.TcCoe Idealize.ShloMosaic.Tactic Idealize.ShloMosaic.ValueIdx
open Idealize.SL Idealize.SL.Sem
open Cert.KernelIdeal.Gen

variable {F : FTy → Type} [FloatOps F]

/-! ## Column chunks -/

section
variable {α : Type} {n : Nat}

/-- Chunk `k` of width `w`. -/
def ch (w k : Nat) (X : (⟨2, ![n, 16384]⟩ : Shape).Idx → α) : (⟨2, ![n, w]⟩ : Shape).Idx → α :=
  fun i => X (ix2 (i 0) ⟨(w * k + (i 1).val) % 16384, Nat.mod_lt _ (by decide)⟩)

/-- The block whose chunk `k` is `f k`. -/
def spread (w : Nat) (hw : 0 < w) (f : Nat → (⟨2, ![n, w]⟩ : Shape).Idx → α) : (⟨2, ![n, 16384]⟩ : Shape).Idx → α :=
  fun j => f ((j 1).val / w) (ix2 (j 0) ⟨(j 1).val % w, Nat.mod_lt _ hw⟩)

/-- `G` on the columns below `m`, `X` on the others. -/
def upto (m : Nat) (G X : (⟨2, ![n, 16384]⟩ : Shape).Idx → α) : (⟨2, ![n, 16384]⟩ : Shape).Idx → α :=
  fun j => if (j 1).val < m then G j else X j

theorem upto_zero (G X : (⟨2, ![n, 16384]⟩ : Shape).Idx → α) : upto 0 G X = X := by
  funext j; simp [upto]

theorem upto_all (G X : (⟨2, ![n, 16384]⟩ : Shape).Idx → α) : upto 16384 G X = G := by
  funext j
  have : (j 1).val < 16384 := idx2_lt1 j
  simp [upto, this]

theorem ch_spread {w k : Nat} (hw : 0 < w) (hk : w * k + w ≤ 16384) (f : Nat → (⟨2, ![n, w]⟩ : Shape).Idx → α) :
    ch w k (spread w hw f) = f k := by
  funext i
  have hi : (i 1).val < w := idx2_lt1 i
  have h1 : (w * k + (i 1).val) % 16384 = w * k + (i 1).val := Nat.mod_eq_of_lt (by omega)
  have h2 : (w * k + (i 1).val) / w = k := by
    rw [Nat.mul_add_div hw, Nat.div_eq_of_lt hi, Nat.add_zero]
  have h3 : (w * k + (i 1).val) % w = (i 1).val := by
    rw [Nat.mul_add_mod, Nat.mod_eq_of_lt hi]
  show f (((w * k + (i 1).val) % 16384) / w) (ix2 (i 0) ⟨((w * k + (i 1).val) % 16384) % w, _⟩) = f k i
  simp only [h1, h2, h3]
  congr 1
  exact (eq_ix2 i).symm

variable {w k : Nat} (inb : ∀ a, (![0, w * k] : Fin 2 → Nat) a + (⟨2, ![n, w]⟩ : Shape).size a ≤ (⟨2, ![n, 16384]⟩ : Shape).size a)

include inb in
theorem inb_le : w * k + w ≤ 16384 := inb 1

theorem emb_eq (i : (⟨2, ![n, w]⟩ : Shape).Idx) :
    (Rect.unit (s := ⟨2, ![n, 16384]⟩) ![0, w * k] (⟨2, ![n, w]⟩ : Shape).size inb).emb i
      = ix2 (i 0) ⟨(w * k + (i 1).val) % 16384, Nat.mod_lt _ (by decide)⟩ := by
  have hi : (i 1).val < w := idx2_lt1 i
  have hle := inb_le inb
  funext a; apply Fin.ext
  match a with
  | ⟨0, _⟩ => show 0 + 1 * (i 0).val = (i 0).val; omega
  | ⟨1, _⟩ =>
    show w * k + 1 * (i 1).val = (w * k + (i 1).val) % 16384
    rw [Nat.mod_eq_of_lt (by omega)]; omega

theorem rd_eq (X : (⟨2, ![n, 16384]⟩ : Shape).Idx → α) :
    rd (Rect.unit (s := ⟨2, ![n, 16384]⟩) ![0, w * k] (⟨2, ![n, w]⟩ : Shape).size inb) X = ch w k X := by
  funext i
  show X _ = X _
  exact congrArg X (emb_eq inb i)

/-- Loading a chunk not yet written. -/
theorem rd_upto (G X : (⟨2, ![n, 16384]⟩ : Shape).Idx → α) :
    rd (Rect.unit (s := ⟨2, ![n, 16384]⟩) ![0, w * k] (⟨2, ![n, w]⟩ : Shape).size inb) (upto (w * k) G X) = ch w k X := by
  rw [rd_eq]; funext i
  have hi : (i 1).val < w := idx2_lt1 i
  have hle := inb_le inb
  show (if (w * k + (i 1).val) % 16384 < w * k then _ else _) = _
  rw [if_neg (by rw [Nat.mod_eq_of_lt (by omega)]; omega)]; rfl

/-- Storing the next chunk. -/
theorem overlay_upto (G X : (⟨2, ![n, 16384]⟩ : Shape).Idx → α) (v : (⟨2, ![n, w]⟩ : Shape).Idx → α) (hv : ch w k G = v) :
    (Rect.unit (s := ⟨2, ![n, 16384]⟩) ![0, w * k] (⟨2, ![n, w]⟩ : Shape).size inb).overlay (upto (w * k) G X) v
      = upto (w * (k + 1)) G X := by
  have hle := inb_le inb
  funext j
  by_cases hj : j ∈ (Rect.unit (s := ⟨2, ![n, 16384]⟩) ![0, w * k] (⟨2, ![n, w]⟩ : Shape).size inb).set
  · obtain ⟨i, rfl⟩ := LoadRect.exists_idx_of_mem _ hj
    have hi : (i 1).val < w := idx2_lt1 (n0 := n) (n1 := w) i
    refine (Rect.overlay_emb _ _ _ i).trans ?_
    have e := emb_eq inb i
    have : (Rect.unit (s := ⟨2, ![n, 16384]⟩) ![0, w * k] (⟨2, ![n, w]⟩ : Shape).size inb).idx i
      = ix2 (n0 := n) (n1 := 16384) (i 0) ⟨(w * k + (i 1).val) % 16384, Nat.mod_lt _ (by decide)⟩ := e
    rw [this, ← hv]
    show G _ = if (w * k + (i 1).val) % 16384 < w * (k + 1) then _ else _
    rw [if_pos (by rw [Nat.mod_eq_of_lt (by omega), Nat.mul_succ]; omega)]
  · rw [Rect.overlay_of_not_mem _ _ _ hj]
    rw [Rect.mem_set_unit] at hj
    have h0 : (j 0).val < n := idx2_lt0 j
    have : ¬(w * k ≤ (j 1).val ∧ (j 1).val < w * k + w) := fun h => hj (by
      intro a
      match a with
      | ⟨0, _⟩ => exact ⟨Nat.zero_le _, by show (j 0).val < 0 + n; omega⟩
      | ⟨1, _⟩ => exact h)
    unfold upto
    rw [Nat.mul_succ]
    by_cases h : (j 1).val < w * k
    · rw [if_pos h, if_pos (by omega)]
    · rw [if_neg h, if_neg (by omega)]

end

/-! ## Whole buffers -/

theorem emb_whole {s : Shape} (off : Fin s.rank → Nat) (h0 : ∀ a, off a = 0) (inb : ∀ a, off a + s.size a ≤ s.size a) (i : s.Idx) :
    (Rect.unit off s.size inb).emb i = i := by
  funext a; apply Fin.ext
  show off a + 1 * (i a).val = _
  rw [h0]; omega

theorem rd_whole {s : Shape} {α : Type} (off : Fin s.rank → Nat) (h0 : ∀ a, off a = 0) (inb : ∀ a, off a + s.size a ≤ s.size a) (X : s.Idx → α) :
    rd (Rect.unit off s.size inb) X = X := by
  funext i
  show X _ = X _
  exact congrArg X (emb_whole off h0 inb i)

theorem overlay_whole {s : Shape} {α : Type} (off : Fin s.rank → Nat) (h0 : ∀ a, off a = 0) (inb : ∀ a, off a + s.size a ≤ s.size a)
    (X v : s.Idx → α) : (Rect.unit off s.size inb).overlay X v = v := by
  funext i
  have := Rect.overlay_emb (Rect.unit off s.size inb) X v i
  rwa [emb_whole off h0 inb i] at this

theorem ov8 {α : Type} (X v : S8x16384.Idx → α) :
    (Rect.unit (s := S8x16384) ![0, 0] S8x16384.size inb_S8x16384_S8x16384_0_0).overlay X v = v :=
  overlay_whole (s := S8x16384) ![0, 0] (by decide) _ X v

theorem rw8 {α : Type} (X : S8x16384.Idx → α) :
    rd (Rect.unit (s := S8x16384) ![0, 0] S8x16384.size inb_S8x16384_S8x16384_0_0) X = X :=
  rd_whole (s := S8x16384) ![0, 0] (by decide) _ X

theorem ov1 {α : Type} (X v : S1x16384.Idx → α) :
    (Rect.unit (s := S1x16384) ![0, 0] S1x16384.size inb_S1x16384_S1x16384_0_0).overlay X v = v :=
  overlay_whole (s := S1x16384) ![0, 0] (by decide) _ X v

/-! ## Closed forms -/

/-- Chunk `c` of the parts. -/
def chP (c : Nat) (X : S8x32x16384.Idx → Elt F .fp8e5m2) : S8x32x512.Idx → Elt F .fp8e5m2 :=
  fun i => X (ix3 (i 0) (i 1) ⟨(512 * c + (i 2).val) % 16384, Nat.mod_lt _ (by decide)⟩)

/-- The summed parts. -/
def gAll (lhs : FVec F S32x256 .bf16) (pt : S8x32x16384.Idx → Elt F .fp8e5m2) : S32x16384.Idx → Elt F .f32 :=
  spread 512 (by decide) fun c => gOf lhs (chP c pt)

/-- The running sums after `n` lane chunks. -/
def sums (r : S32x16384.Idx → Elt F .bf16) (ga : S1x16384.Idx → Elt F .f32) (G : S32x16384.Idx → Elt F .f32) (n : Nat) :
    FVec F S32x128 .f32 × FVec F S32x128 .f32 :=
  Nat.rec (zero32, zero32) (fun k a => (msqOf a.1 (ch 128 k r), cdotOf a.2 (ch 128 k G) (ch 128 k r) (ch 128 k ga))) n

/-- Chunk `k` of the gradient. -/
def dhc (k1 k2 : FVec F S32x128 .f32) (r : S32x16384.Idx → Elt F .bf16) (G : S32x16384.Idx → Elt F .f32)
    (ga : S1x16384.Idx → Elt F .f32) (gr : S32x16384.Idx → Elt F .bf16) (k : Nat) : FVec F S32x128 .f32 :=
  dhOf k1 k2 (ch 128 k r) (ch 128 k G) (ch 128 k ga) (ch 128 k gr)

/-- The running maximum after `n` lane chunks. -/
def amx (GX : S32x16384.Idx → Elt F .bf16) (n : Nat) : FVec F S32x128 .bf16 :=
  Nat.rec zero16 (fun k a => amaxOf a (ch 128 k GX)) n

/-! ## Loops -/

theorem loop_tr {β : Type} {A : Ar} {N : Nat} {f : (c : Nat) → c < N → β → Prog (TpuEff nD τ sig (Elt F) Λ₀ .tc) β}
    {σ : Nat → St F} {a : Nat → β} (h : ∀ k (hk : k < N), Tr A (f k hk (a k)) (σ k) (a (k + 1)) (σ (k + 1))) :
    Tr A (loop N f N (Nat.le_refl _) (a 0)) (σ 0) (a N) (σ N) := by
  have key : ∀ n (hn : n ≤ N), Tr A (loop N f n hn (a (N - n))) (σ (N - n)) (a N) (σ N) := by
    intro n
    induction n with
    | zero => intro hn; exact Tr.pure A _ _
    | succ n ih =>
      intro hn
      have e : N - (n + 1) + 1 = N - n := by omega
      have h1 := h (N - (n + 1)) (by omega)
      rw [e] at h1
      exact Tr.bind h1 (ih (by omega))
  have := key N (Nat.le_refl _)
  rwa [Nat.sub_self] at this

theorem Tr.cast {β : Type} {A : Ar} {p : Prog (TpuEff nD τ sig (Elt F) Λ₀ .tc) β} {σ σ₁ σ₂ : St F} {a b : β} (h : Tr A p σ a σ₁)
    (ha : a = b) (hσ : σ₁ = σ₂) : Tr A p σ b σ₂ := by subst ha; subst hσ; exact h

variable (A : Ar)

theorem laneA_tr (k : Nat) (hk : k < 128) (g : FVec F S32x128 .f32) (a : FVec F S32x128 .f32 × FVec F S32x128 .f32) (σ : St F)
    (G : S32x16384.Idx → Elt F .f32) (hg : g = ch 128 k G) (ha : a = sums σ.r σ.ga G k) :
    Tr A (laneA A.r A.ga k hk g a) σ (sums σ.r σ.ga G (k + 1)) σ := by
  unfold laneA
  refine Tr.bind ((foc_r A).load (fun _ => rfl) _ _ σ) ?_
  refine Tr.bind ((foc_ga A).load (fun _ => rfl) _ _ σ) ?_
  refine (Tr.pure A σ _).cast ?_ rfl
  subst hg; subst ha
  rw [rd_eq (inb32 k hk), rd_eq (inb1 k hk)]
  rfl

theorem slice_ch (c t : Nat) (hc : c < 32) (ht : t < 4) (G : S32x16384.Idx → Elt F .f32) (h : Shape.Slices S32x512 ![0, 128 * t] S32x128) :
    extractStridedSlice S32x128 ![0, 128 * t] (ch 512 c G) h = ch 128 (4 * c + t) G := by
  funext i
  show G _ = G _
  congr 1
  funext a; apply Fin.ext
  match a with
  | ⟨0, _⟩ => show 0 + (i 0).val = (i 0).val; omega
  | ⟨1, _⟩ => show (512 * c + (128 * t + (i 1).val)) % 16384 = (128 * (4 * c + t) + (i 1).val) % 16384; congr 1; omega

theorem stepA_tr (lhs : FVec F S32x256 .bf16) (c : Nat) (hc : c < 32) (σ : St F) (X : S32x16384.Idx → Elt F .f32) :
    Tr A (stepA A.pt A.r A.ga A.g lhs c hc (sums σ.r σ.ga (gAll lhs σ.pt) (4 * c)))
      { σ with g := upto (512 * c) (gAll lhs σ.pt) X } (sums σ.r σ.ga (gAll lhs σ.pt) (4 * (c + 1)))
      { σ with g := upto (512 * (c + 1)) (gAll lhs σ.pt) X } := by
  have hch : ch 512 c (gAll lhs σ.pt) = gOf lhs (chP c σ.pt) := ch_spread (by decide) (by omega) _
  unfold stepA
  refine Tr.bind ((foc_pt A).load (fun _ => rfl) _ _ _) ?_
  have hp : rd (rP c hc) σ.pt = chP c σ.pt := by
    funext i
    have hi : (i 2).val < 512 := (i 2).isLt
    show σ.pt _ = σ.pt _
    congr 1
    funext a; apply Fin.ext
    match a with
    | ⟨0, _⟩ => show 0 + 1 * (i 0).val = (i 0).val; omega
    | ⟨1, _⟩ => show 0 + 1 * (i 1).val = (i 1).val; omega
    | ⟨2, _⟩ => show 512 * c + 1 * (i 2).val = (512 * c + (i 2).val) % 16384; rw [Nat.mod_eq_of_lt (by omega)]; omega
  refine Tr.bind ((foc_g A).load (fun _ => rfl) _ _ _) ?_
  refine Tr.bind (((foc_g A).store _ _ _ _ _).cast rfl (σ₂ := { σ with g := upto (512 * (c + 1)) (gAll lhs σ.pt) X }) ?_) ?_
  · refine congrArg (fun Y => { σ with g := Y }) (overlay_upto (inb512 c hc) _ _ _ ?_)
    rw [hp, hch]
    exact (shapeCast_self _ _).symm
  · rw [hp, ← hch]
    refine Tr.bind (laneA_tr A (4 * c) (by omega) _ _ _ (gAll lhs σ.pt) (slice_ch c 0 hc (by decide) _ _) rfl) ?_
    refine Tr.bind (laneA_tr A (4 * c + 1) (by omega) _ _ _ (gAll lhs σ.pt) (slice_ch c 1 hc (by decide) _ _) rfl) ?_
    refine Tr.bind (laneA_tr A (4 * c + 2) (by omega) _ _ _ (gAll lhs σ.pt) (slice_ch c 2 hc (by decide) _ _) rfl) ?_
    exact laneA_tr A (4 * c + 3) (by omega) _ _ _ (gAll lhs σ.pt) (slice_ch c 3 hc (by decide) _ _) rfl

/-- The contents after `n` chunks of the second loop. -/
def stB (k1 k2 : FVec F S32x128 .f32) (σ : St F) (n : Nat) : St F :=
  { σ with
    ag := upto (128 * n) (spread 128 (by decide) fun k => accOf (ch 128 k σ.ag) (dgtOf k1 (ch 128 k σ.r) (ch 128 k σ.g))) σ.ag
    ab := upto (128 * n) (spread 128 (by decide) fun k => accOf (ch 128 k σ.ab) (dhc k1 k2 σ.r σ.g σ.ga σ.gr k)) σ.ab
    gx := upto (128 * n) (spread 128 (by decide) fun k => gxOf (dhc k1 k2 σ.r σ.g σ.ga σ.gr k)) σ.gx }

theorem stepB_tr (k1 k2 : FVec F S32x128 .f32) (k : Nat) (hk : k < 128) (σ : St F) :
    Tr A (stepB A.r A.ga A.gr A.gx A.hgx A.g A.ag A.ab k1 k2 k hk
        (amx (spread 128 (by decide) fun k => gxOf (dhc k1 k2 σ.r σ.g σ.ga σ.gr k)) k))
      (stB k1 k2 σ k) (amx (spread 128 (by decide) fun k => gxOf (dhc k1 k2 σ.r σ.g σ.ga σ.gr k)) (k + 1)) (stB k1 k2 σ (k + 1)) := by
  unfold stepB stB
  refine Tr.bind ((foc_r A).load (fun _ => rfl) _ _ _) ?_
  refine Tr.bind ((foc_g A).load (fun _ => rfl) _ _ _) ?_
  refine Tr.bind ((foc_ga A).load (fun _ => rfl) _ _ _) ?_
  refine Tr.bind ((foc_gr A).load (fun _ => rfl) _ _ _) ?_
  refine Tr.bind ((foc_ag A).load (fun _ => rfl) _ _ _) ?_
  refine Tr.bind ((foc_ag A).load (fun _ => rfl) _ _ _) ?_
  dsimp only
  rw [rd_eq (inb32 k hk), rd_eq (inb32 k hk), rd_eq (inb32 k hk), rd_eq (inb1 k hk), rd_upto (inb8 k hk)]
  refine Tr.bind ((foc_ag A).store _ _ _ _ _) ?_
  dsimp only
  rw [overlay_upto (inb8 k hk) _ _ _ (ch_spread (by decide) (by omega) _)]
  refine Tr.bind ((foc_ab A).load (fun _ => rfl) _ _ _) ?_
  refine Tr.bind ((foc_ab A).load (fun _ => rfl) _ _ _) ?_
  dsimp only
  rw [rd_upto (inb8 k hk)]
  refine Tr.bind ((foc_ab A).store _ _ _ _ _) ?_
  dsimp only
  rw [← dhc, overlay_upto (inb8 k hk) _ _ _ (ch_spread (by decide) (by omega) _)]
  refine Tr.bind ((foc_gx A).load (fun _ => rfl) _ _ _) ?_
  refine Tr.bind ((foc_gx A).store _ _ _ _ _) ?_
  dsimp only
  rw [overlay_upto (inb32 k hk) _ _ _ (ch_spread (by decide) (by omega) _)]
  refine (Tr.pure A _ _).cast ?_ rfl
  show amaxOf _ _ = amaxOf (amx _ k) _
  rw [ch_spread (by decide) (by omega)]

theorem stepC_tr (inv : FVec F S32x128 .bf16) (k : Nat) (hk : k < 128) (σ : St F) (X : S32x16384.Idx → Elt F .fp8e5m2) :
    Tr A (stepC A.gx A.cd A.hcd inv k hk ⟨⟩)
      { σ with cd := upto (128 * k) (spread 128 (by decide) fun k => codeOf inv (ch 128 k σ.gx)) X } ⟨⟩
      { σ with cd := upto (128 * (k + 1)) (spread 128 (by decide) fun k => codeOf inv (ch 128 k σ.gx)) X } := by
  unfold stepC
  refine Tr.bind ((foc_gx A).load (fun _ => rfl) _ _ _) ?_
  refine Tr.bind ((foc_cd A).load (fun _ => rfl) _ _ _) ?_
  dsimp only
  rw [rd_eq (inb32 k hk)]
  refine ((foc_cd A).store _ _ _ _ _).cast rfl ?_
  refine congrArg (fun Y => { σ with cd := Y }) (overlay_upto (inb32 k hk) _ _ _ (ch_spread (by decide) (by omega) _))

/-! ## The whole body -/

variable (i : grid0.Coords)

/-- The accumulators after the zeros of the first grid point. -/
def acc0 (X : S8x16384.Idx → Elt F .f32) : S8x16384.Idx → Elt F .f32 := if isFirst i = 1#1 then zero8 else X

theorem first_tr (σ : St F) : Tr A (first i A.ag A.ab) σ ⟨⟩ { σ with ag := acc0 i σ.ag, ab := acc0 i σ.ab } := by
  unfold first acc0
  by_cases h : isFirst i = 1#1
  · simp only [dif_pos h, if_pos h]
    refine Tr.bind ((foc_ag A).load (fun _ => rfl) _ _ _) ?_
    refine Tr.bind ((foc_ag A).store _ _ _ _ _) ?_
    refine Tr.bind ((foc_ab A).load (fun _ => rfl) _ _ _) ?_
    refine Tr.bind ((foc_ab A).store _ _ _ _ _) ?_
    refine (Tr.pure A _ _).cast rfl ?_
    dsimp only
    rw [ov8, ov8]
  · simp only [dif_neg h, if_neg h]
    exact Tr.pure A _ _

theorem scales_tr (v : FVec F S32x128 .f32) (σ : St F) :
    Tr A (scales i A.sl v) σ ⟨⟩ { σ with sl := mergeOf (mineOf i) (rowOf v) σ.sl } := by
  unfold scales
  refine Tr.bind ((foc_sl A).load (fun _ => rfl) _ _ _) ?_
  refine Tr.bind ((foc_sl A).load (fun _ => rfl) _ _ _) ?_
  refine ((foc_sl A).store _ _ _ _ _).cast rfl ?_
  refine congrArg (fun Y => { σ with sl := Y }) ?_
  exact (overlay_whole (s := S2x384) _ (by decide) _ _ _).trans (congrArg (mergeOf _ _) (rd_whole (s := S2x384) _ (by decide) _ _))

/-- A column-sum result's block: written at the last grid point alone. -/
def colSt (X : S8x16384.Idx → Elt F .f32) (Y : S1x16384.Idx → Elt F .f32) : S1x16384.Idx → Elt F .f32 :=
  if k0_cond2 i = 1#1 then colOf X else Y

theorem last_tr (σ : St F) : Tr A (last i A.dg A.db A.ag A.ab) σ ⟨⟩ { σ with dg := colSt i σ.ag σ.dg, db := colSt i σ.ab σ.db } := by
  unfold last colSt
  by_cases h : k0_cond2 i = 1#1
  · simp only [dif_pos h, if_pos h]
    refine Tr.bind ((foc_ag A).load (fun _ => rfl) _ _ _) ?_
    refine Tr.bind ((foc_dg A).load (fun _ => rfl) _ _ _) ?_
    refine Tr.bind ((foc_dg A).store _ _ _ _ _) ?_
    refine Tr.bind ((foc_ab A).load (fun _ => rfl) _ _ _) ?_
    refine Tr.bind ((foc_db A).load (fun _ => rfl) _ _ _) ?_
    refine Tr.bind ((foc_db A).store _ _ _ _ _) ?_
    refine (Tr.pure A _ _).cast rfl ?_
    dsimp only
    rw [ov1, ov1, rw8, rw8]
  · simp only [dif_neg h, if_neg h]
    exact Tr.pure A _ _

/-- The scales' matrix at this grid point. -/
def lhsAt (sc : S8x2x384.Idx → Elt F .f32) : FVec F S32x256 .bf16 :=
  lhsOf (rot i (rd (Rect.unit (s := S8x2x384) (k0_off1 i) S8x2x128.size (k0_off1_inb i)) sc))

/-- The summed parts' block. -/
def oG (σ : St F) : S32x16384.Idx → Elt F .f32 := gAll (lhsAt i σ.sc) σ.pt
/-- The reciprocal root. -/
def oK1 (σ : St F) : FVec F S32x128 .f32 := k1Of (sums σ.r σ.ga (oG i σ) 128).1
/-- The correction's factor. -/
def oK2 (σ : St F) : FVec F S32x128 .f32 := k2Of (sums σ.r σ.ga (oG i σ) 128).1 (sums σ.r σ.ga (oG i σ) 128).2
/-- Chunk `k` of the gradient before rounding. -/
def oDh (σ : St F) (k : Nat) : FVec F S32x128 .f32 := dhc (oK1 i σ) (oK2 i σ) σ.r (oG i σ) σ.ga σ.gr k
/-- The gradient's block. -/
def oGx (σ : St F) : S32x16384.Idx → Elt F .bf16 := spread 128 (by decide) fun k => gxOf (oDh i σ k)
/-- The exponent. -/
def oE (σ : St F) : IVec S32x128 32 := expOf (fieldOf (qOf (amx (oGx i σ) 128)))
/-- The codes' block. -/
def oCd (σ : St F) : S32x16384.Idx → Elt F .fp8e5m2 :=
  spread 128 (by decide) fun k => codeOf (invOf (F := F) (oE i σ)) (gxOf (oDh i σ k))
/-- The gain gradient's accumulator. -/
def oAg (σ : St F) : S8x16384.Idx → Elt F .f32 :=
  spread 128 (by decide) fun k => accOf (ch 128 k (acc0 i σ.ag)) (dgtOf (oK1 i σ) (ch 128 k σ.r) (ch 128 k (oG i σ)))
/-- The bias gradient's accumulator. -/
def oAb (σ : St F) : S8x16384.Idx → Elt F .f32 :=
  spread 128 (by decide) fun k => accOf (ch 128 k (acc0 i σ.ab)) (oDh i σ k)

/-- What the body leaves. -/
def bodySt (σ : St F) : St F :=
  { σ with
    g := oG i σ, ag := oAg i σ, ab := oAb i σ, gx := oGx i σ, cd := oCd i σ
    sl := mergeOf (mineOf i) (rowOf (scaleOf (F := F) (oE i σ))) σ.sl
    dg := colSt i (oAg i σ) σ.dg, db := colSt i (oAb i σ) σ.db }

theorem rest_tr (σ : St F) :
    Tr A (rest i A.pt A.sc A.r A.ga A.gr A.gx A.hgx A.dg A.db A.cd A.hcd A.sl A.g A.ag A.ab)
      { σ with ag := acc0 i σ.ag, ab := acc0 i σ.ab } ⟨⟩ (bodySt i σ) := by
  unfold rest
  refine Tr.bind ((foc_sc A).load (fun _ => rfl) _ _ _) ?_
  dsimp only
  rw [← lhsAt]
  refine Tr.bind (a := sums σ.r σ.ga (oG i σ) 128) (σ' := { σ with g := oG i σ, ag := acc0 i σ.ag, ab := acc0 i σ.ab }) ?_ ?_
  · have := loop_tr (A := A) (N := 32) (f := stepA A.pt A.r A.ga A.g (lhsAt i σ.sc))
      (σ := fun c => { σ with g := upto (512 * c) (oG i σ) σ.g, ag := acc0 i σ.ag, ab := acc0 i σ.ab })
      (a := fun c => sums σ.r σ.ga (oG i σ) (4 * c))
      (fun c hc => stepA_tr A (lhsAt i σ.sc) c hc { σ with ag := acc0 i σ.ag, ab := acc0 i σ.ab } σ.g)
    simp only [Nat.mul_zero, upto_zero, show 512 * 32 = 16384 from rfl, upto_all] at this
    exact this
  refine Tr.bind (a := amx (oGx i σ) 128)
    (σ' := { σ with g := oG i σ, ag := oAg i σ, ab := oAb i σ, gx := oGx i σ }) ?_ ?_
  · have := loop_tr (A := A) (N := 128) (f := stepB A.r A.ga A.gr A.gx A.hgx A.g A.ag A.ab (oK1 i σ) (oK2 i σ))
      (σ := fun k => stB (oK1 i σ) (oK2 i σ) { σ with g := oG i σ, ag := acc0 i σ.ag, ab := acc0 i σ.ab } k)
      (a := fun k => amx (oGx i σ) k)
      (fun k hk => stepB_tr A (oK1 i σ) (oK2 i σ) k hk { σ with g := oG i σ, ag := acc0 i σ.ag, ab := acc0 i σ.ab })
    simp only [stB, Nat.mul_zero, upto_zero, show 128 * 128 = 16384 from rfl, upto_all] at this
    exact this
  refine Tr.bind (a := ⟨⟩)
    (σ' := { σ with g := oG i σ, ag := oAg i σ, ab := oAb i σ, gx := oGx i σ, cd := oCd i σ }) ?_ ?_
  · have := loop_tr (A := A) (N := 128) (f := stepC A.gx A.cd A.hcd (invOf (oE i σ)))
      (σ := fun k => { σ with
        g := oG i σ, ag := oAg i σ, ab := oAb i σ, gx := oGx i σ,
        cd := upto (128 * k) (spread 128 (by decide) fun k => codeOf (invOf (F := F) (oE i σ)) (ch 128 k (oGx i σ))) σ.cd })
      (a := fun _ => ⟨⟩)
      (fun k hk => stepC_tr A (invOf (oE i σ)) k hk { σ with g := oG i σ, ag := oAg i σ, ab := oAb i σ, gx := oGx i σ } σ.cd)
    simp only [Nat.mul_zero, upto_zero, show 128 * 128 = 16384 from rfl, upto_all] at this
    refine this.cast rfl ?_
    refine congrArg (fun Y => ({ σ with g := oG i σ, ag := oAg i σ, ab := oAb i σ, gx := oGx i σ, cd := Y } : St F)) ?_
    funext j
    have hj : (j 1).val < 16384 := idx2_lt1 j
    show codeOf _ (ch 128 _ (oGx i σ)) _ = codeOf _ _ _
    unfold oGx
    rw [ch_spread (by decide) (by omega)]
  refine Tr.bind (scales_tr A i _ _) ?_
  exact last_tr A i _

/-- The body. -/
theorem body_tr (σ : St F) (a1 a2 a3 a4 a5 a7 a8 a10 a11 a12 a13) :
    Tr A (cc0_rmsnorm_bwd_e5m2 (F := F) i A.pt a1 A.sc a2 A.r a3 A.ga a4 A.gr a5 A.gx A.hgx A.dg a7 A.db a8 A.cd A.hcd A.sl a10 A.g a11 A.ag a12 A.ab a13)
      σ ⟨⟩ (bodySt i σ) := by
  rw [cc0_eq]
  exact Tr.bind (first_tr A i σ) (rest_tr A i σ)

end Cert.KernelIdeal.Str
-- ==== Proof.Run.lean ====
module

public import proofs.«01_k».proof.Proof.Body

@[expose] public section

/-! The kernel's run: what every grid point leaves in the blocks it writes, the two accumulators carried from
point to point, and the launch. -/

set_option maxRecDepth 16384

noncomputable section

namespace Cert.KernelIdeal.Str

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's conditions -/

theorem isFirst_iff (t : Fin cfg0.N) : isFirst (grid0.coords t) = 1#1 ↔ t.val = 0 := by
  have ht : t.val < 24 := Nat.lt_of_lt_of_eq t.isLt N_0
  have e0 : (grid0.coords t 0).val = t.val / 1 % 24 := Pipeline.Grid.coords_val t 0 (by decide) rfl
  simp only [isFirst, e0]
  word_cmp

theorem isLast_iff (t : Fin cfg0.N) : k0_cond2 (grid0.coords t) = 1#1 ↔ t.val = 23 := by
  have ht : t.val < 24 := Nat.lt_of_lt_of_eq t.isLt N_0
  have e0 : (grid0.coords t 0).val = t.val / 1 % 24 := Pipeline.Grid.coords_val t 0 (by decide) rfl
  simp only [k0_cond2, e0]
  word_cmp

/-! ## What a point finds and leaves -/

/-- The buffers at point `t`: the inputs at their blocks, the accumulators at `u` and `v`; nothing reads the others. -/
def inSt (c : Dev nD) (t : Fin cfg0.N) (u v : S8x16384.Idx → Elt F .f32) : St F where
  pt := iblk m c 0 t
  sc := iblk m c 1 t
  r := iblk m c 2 t
  ga := iblk m c 3 t
  gr := iblk m c 4 t
  gx := iblk m c 2 t
  dg := iblk m c 3 t
  db := iblk m c 3 t
  cd := fun j => (iblk m c 0 t : S8x32x16384.Idx → Elt F .fp8e5m2) (ix3 0 (j 0) (j 1))
  sl := fun j => (iblk m c 1 t : S8x2x384.Idx → Elt F .f32) (ix3 0 (j 0) (j 1))
  g := zero32 |> fun z j => z (ix2 (j 0) 0)
  ag := u
  ab := v

/-- The two accumulators before point `n`. -/
def acc (c : Dev nD) (n : Nat) : (S8x16384.Idx → Elt F .f32) × (S8x16384.Idx → Elt F .f32) :=
  Nat.rec (zero8, zero8)
    (fun n a => if h : n < cfg0.N then
      (oAg (grid0.coords ⟨n, h⟩) (inSt m c ⟨n, h⟩ a.1 a.2), oAb (grid0.coords ⟨n, h⟩) (inSt m c ⟨n, h⟩ a.1 a.2)) else a) n

/-- The buffers at point `t`, the accumulators at what the points before it left. -/
def inAt (c : Dev nD) (t : Fin cfg0.N) : St F := inSt m c t (acc m c t.val).1 (acc m c t.val).2

theorem acc_succ (c : Dev nD) (t : Fin cfg0.N) :
    acc m c (t.val + 1) = (oAg (grid0.coords t) (inAt m c t), oAb (grid0.coords t) (inAt m c t)) := by
  show (if h : t.val < cfg0.N then _ else _) = _
  rw [dif_pos t.isLt]; rfl

/-- The scratch before point `n`: the accumulators at what the points before it left, anything before the first. -/
def Phi (c : Dev nD) (n : Nat) : sProp 𝕄 :=
  iprop(iprop((∃ d, owns (c : Thread nD τ) (Memref.whole cc0_scratch0 : Memref sig .tc .vmem S32x16384 .f32) fullShare d)
      ∗ (∃ d, ⌜n = 0 ∨ d = (acc m c n).1⌝ ∗ owns (c : Thread nD τ) (Memref.whole cc0_scratch1 : Memref sig .tc .vmem S8x16384 .f32) fullShare d)
      ∗ (∃ d, ⌜n = 0 ∨ d = (acc m c n).2⌝ ∗ owns (c : Thread nD τ) (Memref.whole cc0_scratch2 : Memref sig .tc .vmem S8x16384 .f32) fullShare d))
    ∗ (∃ r, prngReg c r))

theorem PhiA_eq (c : Dev nD) :
    (Pipeline.ΦA spec0 c : sProp 𝕄)
      = iprop(iprop((∃ d, owns (c : Thread nD τ) (Memref.whole cc0_scratch0 : Memref sig .tc .vmem S32x16384 .f32) fullShare d)
        ∗ (∃ d, owns (c : Thread nD τ) (Memref.whole cc0_scratch1 : Memref sig .tc .vmem S8x16384 .f32) fullShare d)
        ∗ (∃ d, owns (c : Thread nD τ) (Memref.whole cc0_scratch2 : Memref sig .tc .vmem S8x16384 .f32) fullShare d))
        ∗ (∃ r, prngReg c r)) := by
  unfold Pipeline.ΦA; rw [scopedRest0_eq]; simp only [owns_whole]; try rfl

/-- The proof data: an input's buffer is left at its block; the gradient's and the codes' blocks are left at the
body's values; the column sums are named at the last point alone; the scales' block is merged into. -/
def rdat (c : Dev nD) : RDat τ (Elt F) Unit ℕ (UR sig nD τ) ℕ cfg0 c where
  A w := V m c (Pipeline.arrRef spec0 w)
  after w t := match w with
    | ⟨0, _⟩ => fun _ X => X = iblk m c 0 t
    | ⟨1, _⟩ => fun _ X => X = iblk m c 1 t
    | ⟨2, _⟩ => fun _ X => X = iblk m c 2 t
    | ⟨3, _⟩ => fun _ X => X = iblk m c 3 t
    | ⟨4, _⟩ => fun _ X => X = iblk m c 4 t
    | ⟨5, _⟩ => fun _ X => X = oGx (grid0.coords t) (inAt m c t)
    | ⟨6, _⟩ => fun _ X => t.val = 23 → X = colOf (acc m c (t.val + 1)).1
    | ⟨7, _⟩ => fun _ X => t.val = 23 → X = colOf (acc m c (t.val + 1)).2
    | ⟨8, _⟩ => fun _ X => X = oCd (grid0.coords t) (inAt m c t)
    | ⟨9, _⟩ => fun Y X => X = mergeOf (mineOf (grid0.coords t)) (rowOf (scaleOf (F := F) (oE (grid0.coords t) (inAt m c t)))) Y
  Φ t := Phi m c t.val
  q _ := fullShare
  owed _ := 0

theorem rdat_A (c : Dev nD) (w : Fin cfg0.W) : (rdat m c).A w = V m c (Pipeline.arrRef spec0 w) := by
  dsimp only [rdat]

theorem finds_0 (c : Dev nD) (t : Fin cfg0.N) (X) (h : (rdat m c).Finds 0 t X) : X = iblk m c 0 t := by
  obtain ⟨d, rfl⟩ := ((rdat m c).finds_of_fetch (fetch0_0 t) X).mp h; rfl
theorem finds_2 (c : Dev nD) (t : Fin cfg0.N) (X) (h : (rdat m c).Finds 2 t X) : X = iblk m c 2 t := by
  obtain ⟨d, rfl⟩ := ((rdat m c).finds_of_fetch (fetch0_2 t) X).mp h; rfl
theorem finds_4 (c : Dev nD) (t : Fin cfg0.N) (X) (h : (rdat m c).Finds 4 t X) : X = iblk m c 4 t := by
  obtain ⟨d, rfl⟩ := ((rdat m c).finds_of_fetch (fetch0_4 t) X).mp h; rfl
theorem finds_1 (c : Dev nD) (t : Fin cfg0.N) (X) (h : (rdat m c).Finds 1 t X) : X = iblk m c 1 t := by
  have ht : t.val < 24 := Nat.lt_of_lt_of_eq t.isLt N_0
  by_cases hf : (cfg0.win 1).fetch t = true
  · obtain ⟨d, rfl⟩ := ((rdat m c).finds_of_fetch hf X).mp h; rfl
  · have hf' : (cfg0.win 1).fetch t = false := by simpa using hf
    have h0 : t.val ≠ 0 := fun h0 => hf ((fetch0_1 t).mpr (by omega))
    rcases ((rdat m c).finds_of_pos hf' h0 X).mp h with hx | ⟨Y, -, hY⟩
    · exact absurd hx (by rw [Window.flush_in _ rfl]; exact Bool.false_ne_true)
    · exact hY
theorem finds_3 (c : Dev nD) (t : Fin cfg0.N) (X) (h : (rdat m c).Finds 3 t X) : X = iblk m c 3 t := by
  have ht : t.val < 24 := Nat.lt_of_lt_of_eq t.isLt N_0
  by_cases hf : (cfg0.win 3).fetch t = true
  · obtain ⟨d, rfl⟩ := ((rdat m c).finds_of_fetch hf X).mp h; rfl
  · have hf' : (cfg0.win 3).fetch t = false := by simpa using hf
    have h0 : t.val ≠ 0 := fun h0 => hf ((fetch0_3 t).mpr (by omega))
    rcases ((rdat m c).finds_of_pos hf' h0 X).mp h with hx | ⟨Y, -, hY⟩
    · exact absurd hx (by rw [Window.flush_in _ rfl]; exact Bool.false_ne_true)
    · exact hY

/-! ## The body obligation -/

/-- The memrefs the body is called with at point `t`. -/
def ar (t : Fin cfg0.N) : Ar where
  pt := win0_0.stage (cfg0.slots t 0)
  sc := win0_1.stage (cfg0.slots t 1)
  r := win0_2.stage (cfg0.slots t 2)
  ga := win0_3.stage (cfg0.slots t 3)
  gr := win0_4.stage (cfg0.slots t 4)
  gx := win0_5.stage (cfg0.slots t 5)
  hgx := hstage0_5 ((cfg0.slots t 5).cast nbuf0_5)
  dg := win0_6.stage (cfg0.slots t 6)
  db := win0_7.stage (cfg0.slots t 7)
  cd := win0_8.stage (cfg0.slots t 8)
  hcd := hstage0_8 ((cfg0.slots t 8).cast nbuf0_8)
  sl := win0_9.stage (cfg0.slots t 9)
  g := Memref.whole cc0_scratch0
  ag := Memref.whole cc0_scratch1
  ab := Memref.whole cc0_scratch2

theorem defs₀_row (t : Fin cfg0.N) :
    defs₀ (F := F) .tc cfg0.body (cfg0.bodyArgs t (cfg0.slots t)) = bodyAt0 t := by
  unfold defs₀; rw [Defs.onTc_tc]

theorem acc0_eq (c : Dev nD) (t : Fin cfg0.N) (X Y : S8x16384.Idx → Elt F .f32) (h : t.val = 0 ∨ X = Y) :
    acc0 (grid0.coords t) X = acc0 (grid0.coords t) Y := by
  rcases h with h | rfl
  · unfold acc0; rw [if_pos ((isFirst_iff t).mpr h), if_pos ((isFirst_iff t).mpr h)]
  · rfl

/-- What the body is handed at point `t`. -/
def gotSt (Y : (w : Fin cfg0.W) → (cfg0.win w).block.Idx → Elt F (cfg0.win w).elt)
    (u0 : S32x16384.Idx → Elt F .f32) (u1 u2 : S8x16384.Idx → Elt F .f32) : St F :=
  { pt := Y 0, sc := Y 1, r := Y 2, ga := Y 3, gr := Y 4, gx := Y 5, dg := Y 6, db := Y 7, cd := Y 8, sl := Y 9, g := u0, ag := u1, ab := u2 }

theorem body_obligation (c : Dev nD) : (rdat (F := F) m c).BodyObligation (defs₀ (F := F)) Variants.none () Set.univ := by
  intro t Y hY
  have ht : t.val < 24 := Nat.lt_of_lt_of_eq t.isLt N_0
  rw [bigSep_W0, bigSep_W0, defs₀_row]
  have e0 := finds_0 m c t _ (hY 0)
  have e1 := finds_1 m c t _ (hY 1)
  have e2 := finds_2 m c t _ (hY 2)
  have e3 := finds_3 m c t _ (hY 3)
  have e4 := finds_4 m c t _ (hY 4)
  rw [show (rdat m c).Φ t.castSucc = Phi m c t.val from rfl, show (rdat m c).Φ t.succ = Phi m c (t.val + 1) from rfl,
    show (rdat m c).owesAt () t.succ = (rdat m c).owesAt () t.castSucc from rfl]
  unfold Phi
  iintro ⟨⟨⟨⟨%u0, HS0⟩, ⟨%u1, %hu1, HS1⟩, ⟨%u2, %hu2, HS2⟩⟩, Hg⟩, Ho, H0, H1, H2, H3, H4, H5, H6, H7, H8, H9⟩
  have hs : ∀ u v, acc0 (grid0.coords t) u = acc0 (grid0.coords t) (acc m c t.val).1 → acc0 (grid0.coords t) v = acc0 (grid0.coords t) (acc m c t.val).2 →
      oGx (grid0.coords t) (gotSt Y u0 u v) = oGx (grid0.coords t) (inAt m c t) ∧ oCd (grid0.coords t) (gotSt Y u0 u v) = oCd (grid0.coords t) (inAt m c t)
      ∧ oE (grid0.coords t) (gotSt Y u0 u v) = oE (grid0.coords t) (inAt m c t)
      ∧ oAg (grid0.coords t) (gotSt Y u0 u v) = oAg (grid0.coords t) (inAt m c t)
      ∧ oAb (grid0.coords t) (gotSt Y u0 u v) = oAb (grid0.coords t) (inAt m c t) := by
    intro u v hu hv
    simp only [gotSt, e0, e1, e2, e3, e4]
    refine ⟨rfl, rfl, rfl, ?_, ?_⟩
    · unfold oAg; dsimp only; rw [hu]; rfl
    · unfold oAb; dsimp only; rw [hv]; rfl
  obtain ⟨h5, h8, h9, hag, hab⟩ := hs u1 u2 (acc0_eq c t _ _ hu1) (acc0_eq c t _ _ hu2)
  have key := body_tr (ar t) (grid0.coords t) (gotSt Y u0 u1 u2) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_6 ((cfg0.slots t 6).cast nbuf0_6)) (hstage0_7 ((cfg0.slots t 7).cast nbuf0_7)) (hstage0_9 ((cfg0.slots t 9).cast nbuf0_9)) (Memref.isWhole_whole _) (Memref.isWhole_whole _) (Memref.isWhole_whole _)
  iapply (key c _)
  unfold Own
  isplitl [H0 H1 H2 H3 H4 H5 H6 H7 H8 H9 HS0 HS1 HS2]
  · iframe H0 H1 H2 H3 H4 H5 H6 H7 H8 H9 HS0 HS1 HS2
  iintro ⟨H0, H1, H2, H3, H4, H5, H6, H7, H8, H9, HS0, HS1, HS2⟩
  isplitl [HS0 HS1 HS2 Hg]
  · isplitl [HS0 HS1 HS2]
    · isplitl [HS0]
      · iexists _; iexact HS0
      isplitl [HS1]
      · iexists _
        isplitr
        swap; · iexact HS1
        ipureintro; right; rw [acc_succ]; exact hag
      iexists _
      isplitr
      swap; · iexact HS2
      ipureintro; right; rw [acc_succ]; exact hab
    iexact Hg
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact h5
  isplitl [H6]
  · iexists _; isplitr; swap; · iexact H6
    ipureintro; intro h; show colSt _ _ _ = _
    unfold colSt; rw [if_pos ((isLast_iff t).mpr h), acc_succ, hag]
  isplitl [H7]
  · iexists _; isplitr; swap; · iexact H7
    ipureintro; intro h; show colSt _ _ _ = _
    unfold colSt; rw [if_pos ((isLast_iff t).mpr h), acc_succ, hab]
  isplitl [H8]
  · iexists _; isplitr; swap; · iexact H8
    ipureintro; exact h8
  · iexists _; isplitr; swap; · iexact H9
    ipureintro; show mergeOf _ _ _ = mergeOf _ _ _
    rw [h9]; rfl

/-! ## The launch -/

theorem hin (c : Dev nD) : Pipeline.ΦA spec0 c ⊢ (rdat (F := F) m c).Φ 0 := by
  rw [PhiA_eq]; show _ ⊢ Phi m c 0; unfold Phi
  iintro ⟨⟨⟨%u0, HS0⟩, ⟨%u1, HS1⟩, ⟨%u2, HS2⟩⟩, Hg⟩
  isplitl [HS0 HS1 HS2]
  · isplitl [HS0]
    · iexists _; iexact HS0
    isplitl [HS1]
    · iexists _
      isplitr
      swap; · iexact HS1
      ipureintro; exact .inl rfl
    iexists _
    isplitr
    swap; · iexact HS2
    ipureintro; exact .inl rfl
  iexact Hg

theorem hout (c : Dev nD) : (rdat (F := F) m c).Φ (Fin.last cfg0.N) ⊢ Pipeline.ΦA spec0 c := by
  rw [PhiA_eq]; show Phi m c _ ⊢ _; unfold Phi
  iintro ⟨⟨⟨%u0, HS0⟩, ⟨%u1, %h1, HS1⟩, ⟨%u2, %h2, HS2⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every execution ends in a state the proof data describe, with every counter back at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) (hQ' := fun _ h => h) cfgs (0 : Fin 1) launch0 defs₀ Variants.none (rdat m) m ρ main
    (hbody := body_obligation m) (hshare := fun c => (rdat m c).share_full fun _ => rfl) (howed := fun _ _ => rfl) (V := V m)
    (hmain := hmain m Variants.none) (hA := rdat_A m) (hin := hin m) (hout := hout m)

theorem args_of {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The kernel ends with its arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_of m h.1, h.2⟩) (run_main m ρ)

end Cert.KernelIdeal.Str
-- ==== Proof.Bitwise.lean ====
module

public import proofs.«01_k».proof.Proof.Run
public import proofs.«01_k».proof.Proof.Gen.Kernel.Frame
public import proofs.«01_k».proof.Defs

@[expose] public section

/-! The program as printed is, text for text, the program the ideal reading takes; its run is the same theorem. -/

noncomputable section

namespace Cert.KernelIdeal.Str

open Idealize.ShloMosaic Idealize.ShloMosaic.Tactic Idealize.SL.Sem

theorem sig_eq : Cert.Kernel.sig = Cert.KernelIdeal.sig := by sl_kernel_rfl

/-- The program as printed ends with its arguments unchanged and every counter back at zero. -/
theorem quiescent : Cert.quiescent_Kernel (hKernel := Cert.Kernel.Gen.facts) := by
  have h : Cert.quiescent_Kernel (hKernel := Cert.Kernel.Gen.facts) = (∀ (m : (ℓ : Loc nD τ sig) → Buf (Elt Bits) ℓ) (g : Dev nD → PrngReg), True →
    θ_run defs (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0)) := by
    sl_kernel_rfl
  rw [h]
  exact fun m g _ => frame m g

end Cert.KernelIdeal.Str
-- ==== Proof.Scale.lean ====
module

public import Idealize.ShloMosaic.Lib.Pointwise
public import Idealize.ShloMosaic.Lib.IdealHost

@[expose] public section

/-! The exponent field of a nonnegative number, found by eight trials, and the power of two it names. -/

set_option maxRecDepth 16384

noncomputable section

namespace Cert.Scale

open Idealize.ShloMosaic

/-- The number whose pattern has exponent field `n` and nothing else. -/
def pb (n : Nat) : EReal := Ideal.ofBits .f32 (BitVec.ofNat 32 n <<< 23#32)

theorem fields : ∀ n : Fin 255, ((BitVec.ofNat 32 n.val <<< 23#32).extractLsb' 31 1 == 1#1) = false
    ∧ ((BitVec.ofNat 32 n.val <<< 23#32).extractLsb' 23 8).toNat = n.val
    ∧ ((BitVec.ofNat 32 n.val <<< 23#32).extractLsb' 0 23).toNat = 0 := by decide +kernel

theorem pb_eq (n : Nat) (h1 : 1 ≤ n) (h2 : n ≤ 254) : pb n = (((2 : ℝ) ^ ((n : ℤ) - 127) : ℝ) : EReal) := by
  obtain ⟨a, b, c⟩ := fields ⟨n, by omega⟩
  simp only [] at a b c
  unfold pb
  generalize BitVec.ofNat 32 n <<< 23#32 = w at a b c
  show Ideal.ieee 8 23 w = _
  unfold Ideal.ieee
  simp only [b, c, show (8 + 23) = 31 from rfl, a]
  rw [if_neg (by omega), if_neg (by omega)]
  congr 1
  have e : ((n : ℤ) - 127) = 23 + ((n : ℤ) - (2 ^ (8 - 1) - 1) - (23 : ℕ)) := by norm_num
  rw [e, zpow_add₀ (by norm_num : (2 : ℝ) ≠ 0)]
  norm_num

theorem pb_mono {m n : Nat} (h1 : 1 ≤ m) (h : m ≤ n) (h2 : n ≤ 254) : pb m ≤ pb n := by
  rw [pb_eq m h1 (by omega), pb_eq n (by omega) h2]
  exact EReal.coe_le_coe_iff.mpr (zpow_le_zpow_right₀ (by norm_num) (by omega))

theorem pb_pos {n : Nat} (h1 : 1 ≤ n) (h2 : n ≤ 254) : 0 < pb n := by
  rw [pb_eq n h1 h2]
  exact EReal.coe_pos.mpr (by positivity)

theorem pb_one : pb 127 = 1 := by
  rw [pb_eq 127 (by omega) (by omega)]; norm_num

theorem pb_succ {n : Nat} (h1 : 1 ≤ n) (h2 : n ≤ 253) : 2 * pb n = pb (n + 1) := by
  rw [pb_eq n h1 (by omega), pb_eq (n + 1) (by omega) (by omega)]
  rw [show ((n + 1 : ℕ) : ℤ) - 127 = 1 + ((n : ℤ) - 127) by push_cast; ring, zpow_add₀ (by norm_num : (2 : ℝ) ≠ 0)]
  rw [zpow_one, EReal.coe_mul]
  rfl

theorem pb_inv {n : Nat} (h1 : 1 ≤ n) (h2 : n ≤ 253) : Ideal.div 1 (pb n) = pb (254 - n) := by
  unfold Ideal.div
  rw [if_neg (pb_pos h1 (by omega)).ne', one_mul, pb_eq n h1 (by omega), pb_eq (254 - n) (by omega) (by omega),
    ← EReal.coe_inv, ← zpow_neg]
  congr 2
  omega

/-- One trial of the exponent field. -/
def tryField (q : EReal) (e s : BitVec 32) : BitVec 32 :=
  Scalar.select (Ideal.cmp .oge q (Ideal.ofBits .f32 (IntOp.shli .vector (IntOp.minsi (IntOp.addi e s) 239#32) 23#32))) (IntOp.minsi (IntOp.addi e s) 239#32) e

/-- The eight trials. -/
def field (q : EReal) : BitVec 32 :=
  tryField q (tryField q (tryField q (tryField q (tryField q (tryField q (tryField q (tryField q 0#32 128#32) 64#32) 32#32) 16#32) 8#32) 4#32) 2#32) 1#32

/-- That `e` is the field of the greatest power of two tried that is at most `q`, up to `s`. -/
def Upto (q : EReal) (e : BitVec 32) (s : Nat) : Prop :=
  ∃ n : Nat, e = BitVec.ofNat 32 n ∧ n ≤ 239 ∧ (n = 0 ∨ pb n ≤ q) ∧ ∀ m, n + s ≤ m → 1 ≤ m → m ≤ 239 → ¬ pb m ≤ q

theorem select_oge {α : Type} (x y : EReal) (a b : α) [Decidable (y ≤ x)] : Scalar.select (Ideal.cmp .oge x y) a b = if y ≤ x then a else b := by
  have e : Ideal.cmp .oge x y = BitVec.ofBool (decide (y ≤ x)) := by
    simp only [Ideal.cmp]
    congr
  rw [e]
  by_cases h : y ≤ x <;> simp [h, Scalar.select]

theorem select_oeq {α : Type} (x y : EReal) (a b : α) [Decidable (x = y)] : Scalar.select (Ideal.cmp .oeq x y) a b = if x = y then a else b := by
  have e : Ideal.cmp .oeq x y = BitVec.ofBool (decide (x = y)) := by
    simp only [Ideal.cmp]
    congr
  rw [e]
  by_cases h : x = y <;> simp [h, Scalar.select]

theorem minsi_eq : ∀ n : Fin 368, IntOp.minsi (BitVec.ofNat 32 n.val) 239#32 = BitVec.ofNat 32 (min n.val 239) := by decide +kernel

theorem Upto.step {q : EReal} {e : BitVec 32} {s : Nat} (h1 : 1 ≤ s) (h2 : s ≤ 128) (h : Upto q e (2 * s)) :
    Upto q (tryField q e (BitVec.ofNat 32 s)) s := by
  classical
  obtain ⟨n, rfl, hn, hv, hb⟩ := h
  have e1 : IntOp.minsi (IntOp.addi (BitVec.ofNat 32 n) (BitVec.ofNat 32 s)) 239#32 = BitVec.ofNat 32 (min (n + s) 239) := by
    rw [← minsi_eq ⟨n + s, by omega⟩]
    congr 1
    show BitVec.ofNat 32 n + BitVec.ofNat 32 s = _
    rw [← BitVec.ofNat_add]
  unfold tryField
  rw [e1, show IntOp.shli .vector (BitVec.ofNat 32 (min (n + s) 239)) 23#32 = BitVec.ofNat 32 (min (n + s) 239) <<< 23#32 from rfl,
    select_oge]
  change Upto q (if pb (min (n + s) 239) ≤ q then _ else _) s
  split_ifs with hq
  · refine ⟨min (n + s) 239, rfl, by omega, Or.inr hq, fun m hm hm1 hm2 => ?_⟩
    exact hb m (by omega) hm1 hm2
  · refine ⟨n, rfl, hn, hv, fun m hm hm1 hm2 hmq => hq ((pb_mono (by omega) (by omega) (by omega)).trans hmq)⟩

theorem field_upto (q : EReal) : Upto q (field q) 1 := by
  have h0 : Upto q 0#32 256 := ⟨0, rfl, by omega, Or.inl rfl, fun m hm h1 h2 => by omega⟩
  have h1 : Upto q _ 128 := h0.step (s := 128) (by omega) (by omega)
  have h2 : Upto q _ 64 := h1.step (s := 64) (by omega) (by omega)
  have h3 : Upto q _ 32 := h2.step (s := 32) (by omega) (by omega)
  have h4 : Upto q _ 16 := h3.step (s := 16) (by omega) (by omega)
  have h5 : Upto q _ 8 := h4.step (s := 8) (by omega) (by omega)
  have h6 : Upto q _ 4 := h5.step (s := 4) (by omega) (by omega)
  have h7 : Upto q _ 2 := h6.step (s := 2) (by omega) (by omega)
  exact h7.step (s := 1) (by omega) (by omega)

/-- The greatest of the powers of two tried that is at most `q`, or zero. -/
def below (q : EReal) : EReal :=
  Finset.univ.fold max ⊥ fun k : Fin 239 => if pb (k.val + 1) ≤ q then pb (k.val + 1) else 0

theorem below_eq {q : EReal} {n : Nat} (hn : n ≤ 239) (hv : n = 0 ∨ pb n ≤ q) (hb : ∀ m, n + 1 ≤ m → 1 ≤ m → m ≤ 239 → ¬ pb m ≤ q) :
    below q = if n = 0 then 0 else pb n := by
  apply le_antisymm
  · rw [below, Finset.fold_max_le]
    refine ⟨bot_le, fun k _ => ?_⟩
    split_ifs with h1 h2 h3
    · exact absurd h1 (hb _ (by omega) (by omega) (by omega))
    · have := k.isLt
      refine pb_mono (by omega) ?_ (by omega)
      by_contra hc
      exact hb (k.val + 1) (by omega) (by omega) (by omega) h1
    · exact le_rfl
    · exact (pb_pos (by omega) (by omega)).le
  · rw [below, Finset.le_fold_max]
    right
    split_ifs with h0
    · refine ⟨⟨0, by omega⟩, Finset.mem_univ _, ?_⟩
      rw [if_neg (hb _ (by simp only []; omega) (by simp only []; omega) (by simp only []; omega))]
    · refine ⟨⟨n - 1, by omega⟩, Finset.mem_univ _, ?_⟩
      have hv' : pb n ≤ q := hv.resolve_left h0
      simp only [show n - 1 + 1 = n by omega]
      rw [if_pos hv']

/-- The scale of a token whose greatest magnitude is `q` times the largest code. -/
def scale (q : EReal) : EReal := if below q = 0 ∨ q = ⊤ then 1 else 2 * below q

/-- The power of two of the scale, as a word. -/
def expo (q : EReal) : BitVec 32 :=
  let e : BitVec 32 := if q = ⊤ then 255#32 else field q
  if e = 0#32 ∨ e = 255#32 then 0#32 else e - 126#32

theorem expo_eq (q : EReal) : ∃ n : Nat, 1 ≤ n ∧ n ≤ 240 ∧ expo q + 127#32 = BitVec.ofNat 32 n ∧ 127#32 - expo q = BitVec.ofNat 32 (254 - n)
    ∧ scale q = pb n := by
  obtain ⟨f, hf, hn, hv, hb⟩ := field_upto q
  have hbl := below_eq hn hv hb
  unfold expo scale
  by_cases h : q = ⊤
  · refine ⟨127, by omega, by omega, ?_, ?_, ?_⟩
    · simp [h]
    · simp [h]
    · rw [if_pos (Or.inr h), pb_one]
  · by_cases h0 : f = 0
    · subst h0
      refine ⟨127, by omega, by omega, ?_, ?_, ?_⟩
      · simp [h, hf]
      · simp [h, hf]
      · rw [if_pos (Or.inl (by rw [hbl, if_pos rfl])), pb_one]
    · have h1 : BitVec.ofNat 32 f ≠ 0#32 := fun hc => h0 (by
        have := congrArg BitVec.toNat hc
        simp only [BitVec.toNat_ofNat] at this; omega)
      have h2 : BitVec.ofNat 32 f ≠ 255#32 := fun hc => h0 (by
        have := congrArg BitVec.toNat hc
        simp only [BitVec.toNat_ofNat] at this; omega)
      refine ⟨f + 1, by omega, by omega, ?_, ?_, ?_⟩
      · simp only [h, hf, h1, h2, if_false, or_self]
        apply BitVec.eq_of_toNat_eq
        simp only [BitVec.toNat_add, BitVec.toNat_sub, BitVec.toNat_ofNat]
        omega
      · simp only [h, hf, h1, h2, if_false, or_self]
        apply BitVec.eq_of_toNat_eq
        simp only [BitVec.toNat_add, BitVec.toNat_sub, BitVec.toNat_ofNat]
        omega
      · rw [hbl, if_neg h0, if_neg (by
          rintro (hc | hc)
          · exact (pb_pos (by omega) (by omega)).ne' hc
          · exact h hc), pb_succ (by omega) (by omega)]

/-- The word of the scale reads as the scale. -/
theorem scale_word (q : EReal) : Ideal.ofBits .f32 ((expo q + 127#32) <<< 23#32) = scale q := by
  obtain ⟨n, h1, h2, h3, h4, h5⟩ := expo_eq q
  rw [h3, h5]; rfl

/-- The word of the reciprocal reads as one over the scale. -/
theorem inv_word (q : EReal) : Ideal.ofBits .f32 ((127#32 - expo q) <<< 23#32) = Ideal.div 1 (scale q) := by
  obtain ⟨n, h1, h2, h3, h4, h5⟩ := expo_eq q
  rw [h4, h5, pb_inv h1 (by omega)]; rfl

/-- The powers of two tried, as the reference raises them. -/
theorem exp2_eq (k : Nat) (hk : k < 239) : Ideal.exp2 (((((k : ℤ) - 126 : ℤ) : ℝ) : EReal)) = pb (k + 1) := by
  rw [pb_eq (k + 1) (by omega) (by omega)]
  show ((Real.rpow 2 _ : ℝ) : EReal) = _
  congr 1
  rw [show ((k + 1 : ℕ) : ℤ) - 127 = (k : ℤ) - 126 by push_cast; ring]
  exact Real.rpow_intCast 2 _

end Cert.Scale
-- ==== Proof.Value.lean ====
module

public import proofs.«01_k».proof.Proof.Run
public import Idealize.ShloMosaic.Lib.Pointwise
public import proofs.«01_k».proof.Proof.Scale

@[expose] public section

/-! The kernel's value functions read at an index, at the ideal instance. -/

set_option maxRecDepth 16384

noncomputable section

namespace Cert.KernelIdeal.Str

open Idealize.ShloMosaic Idealize.ShloMosaic.Tactic
open Cert.KernelIdeal.Gen

local notation "V" => Vec Ideal

theorem gOf_apply (x : FVec Ideal S32x256 .bf16) (y : V S8x32x512 .fp8e5m2) (s : Fin 32) (c : Fin 512) :
    gOf x y (ix2 s c) = ∑ k : Fin 256, x (ix2 s k) * y (ix3 ⟨k.val / 32, by omega⟩ ⟨k.val % 32, by omega⟩ c) := by
  pointwise [gOf]

theorem msqOf_apply (a : FVec Ideal S32x128 .f32) (x : V S32x128 .bf16) (s : Fin 32) (l : Fin 128) :
    msqOf a x (ix2 s l) = a (ix2 s l) + x (ix2 s l) * x (ix2 s l) := by
  pointwise [msqOf]

theorem cdotOf_apply (a g : FVec Ideal S32x128 .f32) (x : V S32x128 .bf16) (y : V S1x128 .f32) (s : Fin 32) (l : Fin 128) :
    cdotOf a g x y (ix2 s l) = a (ix2 s l) + g (ix2 s l) * y (ix2 0 l) * x (ix2 s l) := by
  pointwise [cdotOf]

theorem zero32_apply (s : Fin 32) (l : Fin 128) : zero32 (F := Ideal) (ix2 s l) = 0 := by
  pointwise [zero32]

theorem k1Of_apply (a : FVec Ideal S32x128 .f32) (s : Fin 32) (l : Fin 128) :
    k1Of a (ix2 s l) = Ideal.rsqrt ((∑ l, a (ix2 s l)) * Ideal.ofBits .f32 0x38800000#32 + Ideal.ofBits .f32 0x358637BD#32) := by
  pointwise [k1Of]

theorem k2Of_apply (a b : FVec Ideal S32x128 .f32) (s : Fin 32) (l : Fin 128) :
    k2Of a b (ix2 s l) = k1Of a (ix2 s l) * k1Of a (ix2 s l) * k1Of a (ix2 s l) * ((∑ l, b (ix2 s l)) * Ideal.ofBits .f32 0x38800000#32) := by
  pointwise [k1Of, k2Of]

theorem zero16_apply (s : Fin 32) (l : Fin 128) : zero16 (F := Ideal) (ix2 s l) = Ideal.ofBits .bf16 0x0000#16 := by
  pointwise [zero16]

theorem dgtOf_apply (k : FVec Ideal S32x128 .f32) (x : V S32x128 .bf16) (g : V S32x128 .f32) (s : Fin 32) (l : Fin 128) :
    dgtOf k x g (ix2 s l) = g (ix2 s l) * x (ix2 s l) * k (ix2 s l) := by
  pointwise [dgtOf]

theorem dhOf_apply (k1 k2 : FVec Ideal S32x128 .f32) (x : V S32x128 .bf16) (g : V S32x128 .f32) (y : V S1x128 .f32) (z : V S32x128 .bf16)
    (s : Fin 32) (l : Fin 128) :
    dhOf k1 k2 x g y z (ix2 s l) = k1 (ix2 s l) * (g (ix2 s l) * y (ix2 0 l)) - x (ix2 s l) * k2 (ix2 s l) + z (ix2 s l) := by
  pointwise [dhOf]

theorem accOf_apply (a : V S8x128 .f32) (x : FVec Ideal S32x128 .f32) (s : Fin 8) (l : Fin 128) :
    accOf a x (ix2 s l) = a (ix2 s l) + ∑ k : Fin 4, x (ix2 ⟨k.val * 8 + s.val, by omega⟩ l) := by
  pointwise [accOf]

theorem gxOf_apply (x : FVec Ideal S32x128 .f32) (i : S32x128.Idx) : gxOf x i = x i := by
  pointwise [gxOf]

theorem amaxOf_apply (a x : FVec Ideal S32x128 .bf16) (i : S32x128.Idx) : amaxOf a x i = max (a i) (max (x i) (-x i)) := by
  pointwise [amaxOf]
  rfl

theorem qOf_apply (a : FVec Ideal S32x128 .bf16) (s : Fin 32) (l : Fin 128) :
    qOf a (ix2 s l) = (Finset.univ.fold max (Ideal.ofBits .f32 0xFF800000#32) fun l => a (ix2 s l)) * Ideal.ofBits .f32 0x37924925#32 := by
  pointwise [qOf]

theorem colOf_apply (a : V S8x16384 .f32) (j : Fin 16384) : colOf a (ix2 0 j) = ∑ s : Fin 8, a (ix2 s j) := by
  pointwise [colOf]

theorem zero8_apply (s : Fin 8) (j : Fin 16384) : zero8 (F := Ideal) (ix2 s j) = 0 := by
  pointwise [zero8]

theorem codeOf_apply (v x : V S32x128 .bf16) (i : S32x128.Idx) :
    codeOf v x i = min (Ideal.ofBits .bf16 0x4760#16) (max (Ideal.ofBits .bf16 0xC760#16) (x i * v i)) := by
  pointwise [codeOf]

theorem mergeOf_apply (c : IVec S2x384 1) (r y : V S2x384 .f32) (i : S2x384.Idx) :
    mergeOf c r y i = if c i = 1#1 then r i else y i := by
  pointwise [mergeOf]
  rfl

theorem select_eq {α : Type} {w : Nat} (x y : BitVec w) (a b : α) :
    Scalar.select (IntOp.cmpi .eq x y) a b = if x = y then a else b := by
  by_cases h : x = y
  · simp [IntOp.cmpi, h, Scalar.select]
  · have e : (x == y) = false := beq_eq_false_iff_ne.mpr h
    simp [IntOp.cmpi, h, e, Scalar.select]

theorem sum_lane (f : Fin 32 → EReal) (l : Nat) (hl : l < 128) :
    (∑ s : Fin 32, Scalar.select (IntOp.cmpi .eq (IntOp.andi (BitVec.ofNat 32 l) 31#32) (BitVec.ofNat 32 s.val)) (f s) 0)
      = f ⟨l % 32, by omega⟩ := by
  have h : ∀ s : Fin 32, Scalar.select (IntOp.cmpi .eq (IntOp.andi (BitVec.ofNat 32 l) 31#32) (BitVec.ofNat 32 s.val)) (f s) 0
      = if s = (⟨l % 32, by omega⟩ : Fin 32) then f s else 0 := by
    intro s
    have e : (BitVec.ofNat 32 l &&& 31#32 = BitVec.ofNat 32 s.val) ↔ s = (⟨l % 32, by omega⟩ : Fin 32) := by
      have hs := s.isLt
      rw [← BitVec.toNat_inj, BitVec.toNat_and]
      simp only [BitVec.toNat_ofNat, Fin.ext_iff]
      rw [show 31 % 2 ^ 32 = 2 ^ 5 - 1 from rfl, Nat.and_two_pow_sub_one_eq_mod]
      omega
    rw [select_eq]
    exact if_congr e rfl rfl
  simp only [h, Finset.sum_ite_eq', Finset.mem_univ, if_true]

theorem at2 {α : Type} {m n : Nat} {a a' : Fin m} {b b' : Fin n} (x : (⟨2, ![m, n]⟩ : Shape).Idx → α)
    (ha : a.val = a'.val) (hb : b.val = b'.val) : x (ix2 a b) = x (ix2 a' b') := by
  rw [Fin.ext ha, Fin.ext hb]

theorem at3 {α : Type} {m n l : Nat} {a a' : Fin m} {b b' : Fin n} {c c' : Fin l} (x : (⟨3, ![m, n, l]⟩ : Shape).Idx → α)
    (ha : a.val = a'.val) (hb : b.val = b'.val) (hc : c.val = c'.val) : x (ix3 a b c) = x (ix3 a' b' c') := by
  rw [Fin.ext ha, Fin.ext hb, Fin.ext hc]

theorem rowOf_apply (x : FVec Ideal S32x128 .f32) (b : Fin 2) (l : Fin 384) :
    rowOf x (ix2 b l) = x (ix2 ⟨l.val % 32, by omega⟩ ⟨l.val % 128, by omega⟩) := by
  have hl := l.isLt
  pointwise [rowOf]
  split_ifs
  all_goals first
    | exact absurd rfl ‹¬ _›
    | (refine (sum_lane (fun s => x (ix2 s ⟨_, _⟩)) _ (by omega)).trans ?_
       refine at2 x ?_ ?_ <;> simp only [] <;> omega)

theorem select_add {α : Type} (k s q : Nat) (hk : k < 128) (hs : s < 32) (hq : q < 128) (a b : α) :
    Scalar.select (IntOp.cmpi .eq (BitVec.ofNat 32 k) (IntOp.addi (BitVec.ofNat 32 s) (BitVec.ofNat 32 q))) a b
      = if k = s + q then a else b := by
  have e : BitVec.ofNat 32 k = BitVec.ofNat 32 s + BitVec.ofNat 32 q ↔ k = s + q := by
    rw [← BitVec.toNat_inj, BitVec.toNat_add]
    simp only [BitVec.toNat_ofNat]
    omega
  rw [select_eq]
  exact if_congr e rfl rfl

theorem lhsOf_apply (v : FVec Ideal S8x128 .f32) (s : Fin 32) (k : Fin 256) :
    lhsOf v (ix2 s k) = if k.val % 32 = s.val then v (ix2 ⟨k.val / 32, by omega⟩ ⟨s.val, by omega⟩) else 0 := by
  have hk := k.isLt
  have hs := s.isLt
  pointwise [lhsOf]
  split
  all_goals
    rw [select_add _ _ 96 (by omega) hs (by omega), select_add _ _ 64 (by omega) hs (by omega),
      select_add _ _ 32 (by omega) hs (by omega), select_add _ _ 0 (by omega) hs (by omega)]
    by_cases hks : k.val % 32 = s.val
    all_goals simp only [hks, if_true, if_false]
    all_goals split_ifs
    all_goals first
      | rfl
      | (exfalso; omega)
      | (refine at2 v ?_ ?_ <;> simp only [] <;> first | omega | (show (_ : Nat) = _; norm_num; omega))

/-- Whether a grid point's tokens are in the second sequence. -/
def rotHi (arg0 : BitVec 32) : BitVec 1 :=
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_19 : BitVec 32 := 1#32
  let v53 : BitVec 1 := Scalar.cmpi .eq v16 c1_i32_19
  v53

/-- How far a grid point's scales are rotated. -/
def rotBy (arg0 : BitVec 32) : BitVec 32 :=
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_19 : BitVec 32 := 1#32
  let v53 : BitVec 1 := Scalar.cmpi .eq v16 c1_i32_19
  let c4_i32_20 : BitVec 32 := 4#32
  let c0_i32_21 : BitVec 32 := 0#32
  let v57 : BitVec 1 := Scalar.cmpi .eq c4_i32_20 c0_i32_21
  let c1_i32_22 : BitVec 32 := 1#32
  let v58 : BitVec 32 := Scalar.select v57 c1_i32_22 c4_i32_20
  let v59 : BitVec 32 := Scalar.remsi v26 v58
  let c0_i32_23 : BitVec 32 := 0#32
  let v60 : BitVec 1 := Scalar.cmpi .ne v59 c0_i32_23
  let c0_i32_24 : BitVec 32 := 0#32
  let v61 : BitVec 1 := Scalar.cmpi .slt v59 c0_i32_24
  let c0_i32_25 : BitVec 32 := 0#32
  let v62 : BitVec 1 := Scalar.cmpi .slt v58 c0_i32_25
  let v63 : BitVec 1 := Scalar.xori v61 v62
  let v64 : BitVec 1 := Scalar.andi v63 v60
  let v65 : BitVec 32 := Scalar.addi v59 v58
  let v66 : BitVec 32 := Scalar.select v64 v65 v59
  let c4_i32_26 : BitVec 32 := 4#32
  let v69 : BitVec 32 := Scalar.subi c4_i32_26 v66
  let c32_i32 : BitVec 32 := 32#32
  let v70 : BitVec 32 := Scalar.muli v69 c32_i32
  v70

theorem rot_eq (i : grid0.Coords) (v : V S8x2x128 .f32) :
    rot i v = dynamicRotate 1 (rotBy (BitVec.ofNat 32 (i 0).val)) none (Scalar.select (rotHi (BitVec.ofNat 32 (i 0).val))
      (shapeCast S8x128 (extractStridedSlice S8x1x128 ![0, 1, 0] v slices_S8x2x128_o0_1_0_S8x1x128) shapeCasts_S8x1x128_S8x128)
      (shapeCast S8x128 (extractStridedSlice S8x1x128 ![0, 0, 0] v slices_S8x2x128_o0_0_0_S8x1x128) shapeCasts_S8x1x128_S8x128)) rotates_S8x128_d1 := rfl

theorem rotHi_eq : ∀ t : Fin 24, rotHi (BitVec.ofNat 32 t.val) = if t.val < 12 then 0#1 else 1#1 := by decide +kernel
theorem rotBy_eq : ∀ t : Fin 24, rotBy (BitVec.ofNat 32 t.val) = BitVec.ofNat 32 ((4 - t.val % 4) * 32) := by decide +kernel

theorem coords_eq (t : Fin cfg0.N) : (grid0.coords t 0).val = t.val := by
  have ht : t.val < 24 := Nat.lt_of_lt_of_eq t.isLt N_0
  have e0 : (grid0.coords t 0).val = t.val / 1 % 24 := Pipeline.Grid.coords_val t 0 (by decide) rfl
  omega

theorem rot_apply (t : Fin cfg0.N) (v : V S8x2x128 .f32) (p : Fin 8) (s : Fin 32) (b : Fin 2) (hb : b.val = t.val / 12) :
    rot (grid0.coords t) v (ix2 p ⟨s.val, by omega⟩) = v (ix3 p b ⟨t.val % 4 * 32 + s.val, by omega⟩) := by
  have ht : t.val < 24 := Nat.lt_of_lt_of_eq t.isLt N_0
  have hs := s.isLt
  rw [rot_eq, coords_eq, rotBy_eq ⟨t.val, ht⟩, rotHi_eq ⟨t.val, ht⟩]
  pointwise
  have e : (BitVec.ofNat 32 ((4 - t.val % 4) * 32)).toNat = (4 - t.val % 4) * 32 := by
    rw [BitVec.toNat_ofNat]; omega
  rw [e]
  split_ifs with h
  · refine at3 v rfl ?_ ?_
    · rw [hb]; show 0 = _; omega
    · simp only []; omega
  · refine at3 v rfl ?_ ?_
    · rw [hb]; show 1 = _; omega
    · simp only []; omega

theorem mineOf_apply (t : Fin cfg0.N) (b : Fin 2) (l : Fin 384) :
    mineOf (grid0.coords t) (ix2 b l) = 1#1 ↔ (b.val * 384 + l.val) / 32 = t.val := by
  have ht : t.val < 24 := Nat.lt_of_lt_of_eq t.isLt N_0
  have hb := b.isLt
  have hl := l.isLt
  have e0 := coords_eq t
  pointwise [mineOf, e0]
  have d1 : (IntOp.addi (IntOp.muli (BitVec.ofNat 32 b.val) 384#32) (BitVec.ofNat 32 l.val)).toNat = b.val * 384 + l.val := by
    simp only [IntOp.addi, IntOp.muli, BitVec.toNat_add, BitVec.toNat_mul, BitVec.toNat_ofNat]
    omega
  have d2 : (Scalar.muli (BitVec.ofNat 32 t.val) 32#32).toNat = t.val * 32 := by
    simp only [Scalar.muli, IntOp.muli, BitVec.toNat_add, BitVec.toNat_mul, BitVec.toNat_ofNat]
    omega
  have d3 : (Scalar.muli (Scalar.addi (BitVec.ofNat 32 t.val) 1#32) 32#32).toNat = (t.val + 1) * 32 := by
    simp only [Scalar.muli, Scalar.addi, IntOp.muli, IntOp.addi, BitVec.toNat_add, BitVec.toNat_mul, BitVec.toNat_ofNat]
    omega
  generalize IntOp.addi (IntOp.muli (BitVec.ofNat 32 b.val) 384#32) (BitVec.ofNat 32 l.val) = x at *
  generalize Scalar.muli (BitVec.ofNat 32 t.val) 32#32 = y at *
  generalize Scalar.muli (Scalar.addi (BitVec.ofNat 32 t.val) 1#32) 32#32 = z at *
  have k1 : IntOp.cmpi .sge x y = BitVec.ofBool (decide (y.toInt ≤ x.toInt)) := rfl
  have k2 : IntOp.cmpi .slt x z = BitVec.ofBool (decide (x.toInt < z.toInt)) := rfl
  have tx : x.toInt = x.toNat := BitVec.toInt_eq_toNat_of_lt (by omega)
  have ty : y.toInt = y.toNat := BitVec.toInt_eq_toNat_of_lt (by omega)
  have tz : z.toInt = z.toNat := BitVec.toInt_eq_toNat_of_lt (by omega)
  rw [k1, k2, tx, ty, tz]
  have and1 : ∀ p q : Bool, IntOp.andi (BitVec.ofBool p) (BitVec.ofBool q) = 1#1 ↔ p = true ∧ q = true := by decide
  rw [and1, decide_eq_true_iff, decide_eq_true_iff]
  omega

theorem scaleOf_apply (x : IVec S32x128 32) (i : S32x128.Idx) :
    scaleOf (F := Ideal) x i = Ideal.ofBits .f32 ((x i + 127#32) <<< 23#32) := by
  pointwise [scaleOf]
  rfl

theorem invOf_apply (x : IVec S32x128 32) (i : S32x128.Idx) :
    invOf (F := Ideal) x i = Ideal.ofBits .f32 ((127#32 - x i) <<< 23#32) := by
  pointwise [invOf]
  rfl

theorem expOf_apply (x : IVec S32x128 32) (i : S32x128.Idx) :
    expOf x i = if x i = 0#32 ∨ x i = 255#32 then 0#32 else x i - 126#32 := by
  pointwise [expOf]
  have h : ∀ p q : Bool, IntOp.ori (BitVec.ofBool p) (BitVec.ofBool q) = BitVec.ofBool (p || q) := by decide
  have e : ∀ a b : BitVec 32, IntOp.cmpi .eq a b = BitVec.ofBool (a == b) := fun _ _ => rfl
  rw [e, e, h]
  by_cases h1 : x i = 0#32
  · simp [h1, Scalar.select]
  · by_cases h2 : x i = 255#32
    · simp [h2, Scalar.select]
    · have e1 : (x i == 0#32) = false := beq_eq_false_iff_ne.mpr h1
      have e2 : (x i == 255#32) = false := beq_eq_false_iff_ne.mpr h2
      simp [h1, h2, e1, e2, Scalar.select, IntOp.subi]

/-- One trial of the exponent fields. -/
def tryVec (x : FVec Ideal S32x128 .f32) (s : BitVec 32) (e : IVec S32x128 32) : IVec S32x128 32 :=
  select (cmpf .oge x (bitcastToFloat .f32 (shli (minsi (addi e (broadcast S32x128 s)) (broadcast S32x128 239#32)) (broadcast S32x128 23#32))))
    (minsi (addi e (broadcast S32x128 s)) (broadcast S32x128 239#32)) e

theorem tryVec_apply (x : FVec Ideal S32x128 .f32) (s : BitVec 32) (e : IVec S32x128 32) (i : S32x128.Idx) :
    tryVec x s e i = Scale.tryField (x i) (e i) s := rfl

theorem fieldOf_eq (x : FVec Ideal S32x128 .f32) :
    fieldOf x = select (cmpf .oeq x (broadcast S32x128 (Scalar.ofBits .f32 0x7F800000#32))) (broadcast S32x128 255#32)
      (tryVec x 1#32 (tryVec x 2#32 (tryVec x 4#32 (tryVec x 8#32 (tryVec x 16#32 (tryVec x 32#32 (tryVec x 64#32 (tryVec x 128#32
        (broadcast S32x128 0#32))))))))) := by
  unfold fieldOf
  rfl

theorem ofBits_top : Ideal.ofBits .f32 0x7F800000#32 = ⊤ := by
  simp [Ideal.ofBits, Ideal.ieee]

theorem fieldOf_apply (x : FVec Ideal S32x128 .f32) (i : S32x128.Idx) :
    expOf (fieldOf x) i = Scale.expo (x i) := by
  have e : fieldOf x i = if x i = ⊤ then 255#32 else Scale.field (x i) := by
    rw [fieldOf_eq]
    show Scalar.select (Ideal.cmp .oeq (x i) (Ideal.ofBits .f32 0x7F800000#32)) 255#32 _ = _
    rw [Scale.select_oeq, ofBits_top]
    simp only [tryVec_apply]
    rfl
  rw [expOf_apply, e]
  rfl

theorem scale_apply (x : FVec Ideal S32x128 .f32) (i : S32x128.Idx) :
    scaleOf (F := Ideal) (expOf (fieldOf x)) i = Scale.scale (x i) := by
  rw [scaleOf_apply, fieldOf_apply]; exact Scale.scale_word _

theorem inv_apply (x : FVec Ideal S32x128 .f32) (i : S32x128.Idx) :
    invOf (F := Ideal) (expOf (fieldOf x)) i = Ideal.div 1 (Scale.scale (x i)) := by
  rw [invOf_apply, fieldOf_apply]; exact Scale.inv_word _

end Cert.KernelIdeal.Str
-- ==== Proof.Spec.lean ====
module

public import proofs.«01_k».proof.Proof.Scale

@[expose] public section

/-! What the two programs compute, over the extended reals: the gradient of a row, its codes and its scale, and sums
over chunks put together. -/

set_option maxRecDepth 16384

noncomputable section

namespace Cert.Spec

open Idealize.ShloMosaic

/-- The row length. -/
def len : EReal := Ideal.ofBits .f32 0x46800000#32
/-- The number under the root. -/
def eps : EReal := Ideal.ofBits .f32 0x358637BD#32
/-- One over the largest code. -/
def step : EReal := Ideal.ofBits .f32 0x37924925#32

/-- The parts of one entry, each times its scale, summed. -/
def total (p s : Fin 8 → EReal) : EReal := ∑ i, p i * s i

/-- The reciprocal root of a row's mean square. -/
def rstd (r : Fin 16384 → EReal) : EReal := Ideal.rsqrt (Ideal.div (∑ j, r j * r j) len + eps)

/-- The mean of a row's products. -/
def corr (g r y : Fin 16384 → EReal) : EReal := Ideal.div (∑ j, g j * y j * r j) len

/-- A row's gradient. -/
def grad (g r y z : Fin 16384 → EReal) (j : Fin 16384) : EReal :=
  rstd r * (g j * y j) - r j * (rstd r * rstd r * rstd r) * corr g r y + z j

/-- A row's greatest magnitude over the largest code. -/
def ratio (v : Fin 16384 → EReal) : EReal := (Finset.univ.fold max ⊥ fun j => max (v j) (-v j)) * step

/-- A row's scale. -/
def scale (v : Fin 16384 → EReal) : EReal := Scale.scale (ratio v)

/-- A row's codes. -/
def code (v : Fin 16384 → EReal) (j : Fin 16384) : EReal :=
  min (Ideal.ofBits .f32 0x47600000#32) (max (Ideal.ofBits .f32 0xC7600000#32) (v j * Ideal.div 1 (scale v)))

theorem len_eq : len = ((16384 : ℝ) : EReal) := by
  simp [len, Ideal.ofBits, Ideal.ieee]
  norm_num
  rw [← EReal.coe_mul, EReal.coe_eq_coe_iff]
  norm_num

theorem inv_len_eq : Ideal.ofBits .f32 0x38800000#32 = (((16384 : ℝ)⁻¹ : ℝ) : EReal) := by
  simp [Ideal.ofBits, Ideal.ieee]
  norm_num
  rw [← EReal.coe_mul, EReal.coe_eq_coe_iff]
  norm_num

theorem div_len (x : EReal) : Ideal.div x len = x * Ideal.ofBits .f32 0x38800000#32 := by
  unfold Ideal.div
  rw [len_eq, inv_len_eq, if_neg, EReal.coe_inv]
  intro h
  have : ((16384 : ℝ) : EReal) = ((0 : ℝ) : EReal) := h
  rw [EReal.coe_eq_coe_iff] at this
  norm_num at this

theorem max16 : Ideal.ofBits .bf16 0x4760#16 = Ideal.ofBits .f32 0x47600000#32 := by
  simp [Ideal.ofBits, Ideal.ieee]
  norm_num
  rw [← EReal.coe_pow, ← EReal.coe_mul, ← EReal.coe_mul, EReal.coe_eq_coe_iff]
  norm_num

theorem min16 : Ideal.ofBits .bf16 0xC760#16 = Ideal.ofBits .f32 0xC7600000#32 := by
  simp [Ideal.ofBits, Ideal.ieee]
  norm_num
  rw [← EReal.coe_pow, ← EReal.coe_mul, ← EReal.coe_mul, EReal.coe_eq_coe_iff]
  norm_num

theorem bot32 : Ideal.ofBits .f32 0xFF800000#32 = ⊥ := by
  simp [Ideal.ofBits, Ideal.ieee]

theorem abs_nonneg (x : EReal) : 0 ≤ max x (-x) := by
  rcases le_total 0 x with h | h
  · exact h.trans (le_max_left _ _)
  · exact (EReal.neg_nonneg.mpr h).trans (le_max_right _ _)

/-- A double sum over quotient and remainder is the sum over all. -/
theorem sum_split {M : Type} [AddCommMonoid M] (a b : Nat) (f : Fin a → Fin b → M) :
    (∑ k : Fin (a * b), f k.divNat k.modNat) = ∑ p, ∑ u, f p u := by
  rw [← Fintype.sum_prod_type']
  exact Fintype.sum_equiv finProdFinEquiv.symm _ _ fun k => rfl

/-- The products with a matrix whose row `s` holds `v p` at the columns `32 p + s`. -/
theorem sum_pick (s : Fin 32) (v : Fin 8 → EReal) (f : Fin 256 → EReal)
    (hf : ∀ k, f k = if k.val % 32 = s.val then v ⟨k.val / 32, by omega⟩ else 0) (y : Fin 8 → Fin 32 → EReal) :
    (∑ k : Fin 256, f k * y ⟨k.val / 32, by omega⟩ ⟨k.val % 32, by omega⟩) = ∑ p, y p s * v p := by
  have h : ∀ k : Fin (8 * 32), f k * y ⟨k.val / 32, by omega⟩ ⟨k.val % 32, by omega⟩
      = (fun (p : Fin 8) (u : Fin 32) => if u = s then y p u * v p else 0) k.divNat k.modNat := by
    intro k
    rw [hf k]
    by_cases hk : k.val % 32 = s.val
    · have e : k.modNat = s := Fin.ext hk
      rw [if_pos hk]
      simp only [e, if_true]
      rw [mul_comm]
      congr 2
    · have e : k.modNat ≠ s := fun h => hk (congrArg Fin.val h)
      rw [if_neg hk, zero_mul]
      simp only [e, if_false]
  refine ((Finset.sum_congr rfl fun k _ => h k).trans
    (sum_split 8 32 fun (p : Fin 8) (u : Fin 32) => if u = s then y p u * v p else 0)).trans ?_
  exact Finset.sum_congr rfl fun p _ => by rw [Finset.sum_ite_eq' Finset.univ s, if_pos (Finset.mem_univ _)]

/-- Lane sums of chunk sums are the row's sum. -/
theorem sum_chunks (f : Fin 16384 → EReal) :
    (∑ l : Fin 128, ∑ k : Fin 128, f ⟨128 * k.val + l.val, by omega⟩) = ∑ j, f j := by
  rw [Finset.sum_comm, ← sum_split 128 128 fun k l => f ⟨128 * k.val + l.val, by omega⟩]
  refine Finset.sum_congr rfl fun j _ => congrArg f (Fin.ext ?_)
  show 128 * (j.val / 128) + j.val % 128 = j.val
  omega

/-- The rows an accumulator row sums, over the points and the accumulator's rows, are all the rows. -/
theorem sum_rows (f : Fin 768 → EReal) :
    (∑ a : Fin 8, ∑ t : Fin 24, ∑ k : Fin 4, f ⟨32 * t.val + (k.val * 8 + a.val), by omega⟩) = ∑ i, f i := by
  have h1 : (∑ i : Fin (24 * 32), f i) = ∑ t : Fin 24, ∑ u : Fin 32, f ⟨32 * t.val + u.val, by omega⟩ := by
    rw [← sum_split 24 32 fun t u => f ⟨32 * t.val + u.val, by omega⟩]
    refine Finset.sum_congr rfl fun j _ => congrArg f (Fin.ext ?_)
    show j.val = 32 * (j.val / 32) + j.val % 32
    omega
  refine Eq.trans ?_ h1.symm
  rw [Finset.sum_comm]
  refine Finset.sum_congr rfl fun t _ => ?_
  have h2 : (∑ u : Fin (4 * 8), f ⟨32 * t.val + u.val, by omega⟩)
      = ∑ k : Fin 4, ∑ a : Fin 8, f ⟨32 * t.val + (k.val * 8 + a.val), by omega⟩ := by
    rw [← sum_split 4 8 fun k a => f ⟨32 * t.val + (k.val * 8 + a.val), by omega⟩]
    refine Finset.sum_congr rfl fun j _ => congrArg f (Fin.ext ?_)
    show 32 * t.val + j.val = 32 * t.val + (j.val / 8 * 8 + j.val % 8)
    omega
  rw [Finset.sum_comm]
  exact h2.symm

/-! ## The results, over the arguments -/

section
variable (P : (⟨4, ![8, 2, 384, 16384]⟩ : Shape).Idx → EReal) (S : (⟨3, ![8, 2, 384]⟩ : Shape).Idx → EReal)
  (R : (⟨3, ![2, 384, 16384]⟩ : Shape).Idx → EReal) (Y : (⟨1, ![16384]⟩ : Shape).Idx → EReal)
  (Z : (⟨3, ![2, 384, 16384]⟩ : Shape).Idx → EReal)

/-- The summed parts of token `i`. -/
def totAt (i : Fin 768) (j : Fin 16384) : EReal :=
  total (fun p => P (ix4 p ⟨i.val / 384, by omega⟩ ⟨i.val % 384, by omega⟩ j)) (fun p => S (ix3 p ⟨i.val / 384, by omega⟩ ⟨i.val % 384, by omega⟩))

/-- The row of token `i`. -/
def rowAt (i : Fin 768) (j : Fin 16384) : EReal := R (ix3 ⟨i.val / 384, by omega⟩ ⟨i.val % 384, by omega⟩ j)

/-- The gradient of token `i`. -/
def gradAt (i : Fin 768) (j : Fin 16384) : EReal := grad (totAt P S i) (rowAt R i) (fun j => Y (ix1 j)) (rowAt Z i) j

/-- A token's term of the gain's gradient. -/
def gainAt (i : Fin 768) (j : Fin 16384) : EReal := totAt P S i j * rowAt R i j * rstd (rowAt R i)

def outGx : (⟨2, ![768, 16384]⟩ : Shape).Idx → EReal := fun i => gradAt P S R Y Z (i 0) (i 1)
def outDg : (⟨2, ![1, 16384]⟩ : Shape).Idx → EReal := fun i => ∑ k, gainAt P S R k (i 1)
def outDb : (⟨2, ![1, 16384]⟩ : Shape).Idx → EReal := fun i => ∑ k, gradAt P S R Y Z k (i 1)
def outCd : (⟨2, ![768, 16384]⟩ : Shape).Idx → EReal := fun i => code (gradAt P S R Y Z (i 0)) (i 1)
def scaleAt (i : Nat) (h : i < 768) : EReal := scale (gradAt P S R Y Z ⟨i, h⟩)
def outSl : (⟨2, ![2, 384]⟩ : Shape).Idx → EReal := fun i =>
  scaleAt P S R Y Z ((i 0).val * 384 + (i 1).val) (by
    have h0 : (i 0).val < 2 := (i 0).isLt
    have h1 : (i 1).val < 384 := (i 1).isLt
    omega)

end

end Cert.Spec
-- ==== Proof.Point.lean ====
module

public import proofs.«01_k».proof.Proof.Value
public import proofs.«01_k».proof.Proof.Spec

@[expose] public section

/-! What one grid point computes from its blocks, at the ideal instance. -/

set_option maxRecDepth 16384

noncomputable section

namespace Cert.KernelIdeal.Str

open Idealize.ShloMosaic Idealize.ShloMosaic.Tactic
open Cert.KernelIdeal.Gen

theorem off1_eq : ∀ i : grid0.Coords, k0_off1 i 0 = 0 ∧ k0_off1 i 1 = 0 ∧ k0_off1 i 2 = (i 0).val % 12 / 4 * 128 := by
  decide +kernel

theorem ch_apply {α : Type} {n w k : Nat} (X : (⟨2, ![n, 16384]⟩ : Shape).Idx → α) (i : Fin n) (l : Fin w) (h : w * k + l.val < 16384) :
    ch w k X (ix2 i l) = X (ix2 i ⟨w * k + l.val, h⟩) := by
  refine congrArg X (funext fun a => Fin.ext ?_)
  match a with
  | ⟨0, _⟩ => rfl
  | ⟨1, _⟩ => exact Nat.mod_eq_of_lt h

theorem spread_apply {α : Type} {n w : Nat} (hw : 0 < w) (f : Nat → (⟨2, ![n, w]⟩ : Shape).Idx → α) (i : Fin n) (j : Fin 16384) :
    spread w hw f (ix2 i j) = f (j.val / w) (ix2 i ⟨j.val % w, Nat.mod_lt _ hw⟩) := by
  refine congrArg (f (j.val / w)) (funext fun a => Fin.ext ?_)
  match a with
  | ⟨0, _⟩ => rfl
  | ⟨1, _⟩ => rfl

/-- A chunk of a block at a column's own chunk and lane. -/
theorem ch_at {α : Type} {n : Nat} (X : (⟨2, ![n, 16384]⟩ : Shape).Idx → α) (i : Fin n) (j : Fin 16384) (h : j.val % 128 < 128) :
    ch 128 (j.val / 128) X (ix2 i ⟨j.val % 128, h⟩) = X (ix2 i j) := by
  rw [ch_apply X i ⟨j.val % 128, h⟩ (by show 128 * (j.val / 128) + j.val % 128 < 16384; omega)]
  exact at2 X rfl (by show 128 * (j.val / 128) + j.val % 128 = j.val; omega)

theorem chP_apply (c : Nat) (hc : c < 32) (X : S8x32x16384.Idx → Elt Ideal .fp8e5m2) (p : Fin 8) (s : Fin 32) (l : Fin 512) :
    chP c X (ix3 p s l) = X (ix3 p s ⟨512 * c + l.val, by omega⟩) := by
  refine congrArg X (funext fun a => Fin.ext ?_)
  match a with
  | ⟨0, _⟩ => rfl
  | ⟨1, _⟩ => rfl
  | ⟨2, _⟩ => show (512 * c + l.val) % 16384 = 512 * c + l.val; omega

section
variable (t : Fin cfg0.N) (σ : St Ideal)

theorem t_lt : t.val < 24 := Nat.lt_of_lt_of_eq t.isLt N_0

/-- The scales of the parts of the point's row `s`. -/
def scAt (s : Fin 32) (p : Fin 8) : EReal :=
  σ.sc (ix3 p ⟨t.val / 12, by have := t_lt t; omega⟩ ⟨32 * (t.val % 12) + s.val, by omega⟩)

theorem lhsAt_apply (s : Fin 32) (k : Fin 256) :
    lhsAt (grid0.coords t) σ.sc (ix2 s k) = if k.val % 32 = s.val then scAt t σ s ⟨k.val / 32, by omega⟩ else 0 := by
  have ht := t_lt t
  obtain ⟨o0, o1, o2⟩ := off1_eq (grid0.coords t)
  rw [coords_eq] at o2
  unfold lhsAt
  rw [lhsOf_apply]
  refine if_congr Iff.rfl ?_ rfl
  rw [rot_apply t _ ⟨k.val / 32, by omega⟩ s ⟨t.val / 12, by omega⟩ rfl]
  unfold rd scAt
  refine congrArg σ.sc ?_
  funext a
  apply Fin.ext
  match a with
  | ⟨0, _⟩ => show k0_off1 (grid0.coords t) 0 + 1 * (k.val / 32) = k.val / 32; omega
  | ⟨1, _⟩ => show k0_off1 (grid0.coords t) 1 + 1 * (t.val / 12) = t.val / 12; omega
  | ⟨2, _⟩ =>
    show k0_off1 (grid0.coords t) 2 + 1 * (t.val % 4 * 32 + s.val) = 32 * (t.val % 12) + s.val
    omega

/-- The summed parts of the point's row `s`. -/
def gRow (s : Fin 32) (j : Fin 16384) : EReal := Spec.total (fun p => σ.pt (ix3 p s j)) (scAt t σ s)
def rRow (s : Fin 32) (j : Fin 16384) : EReal := σ.r (ix2 s j)
def yRow (j : Fin 16384) : EReal := σ.ga (ix2 0 j)
def zRow (s : Fin 32) (j : Fin 16384) : EReal := σ.gr (ix2 s j)

theorem oG_apply (s : Fin 32) (j : Fin 16384) : oG (grid0.coords t) σ (ix2 s j) = gRow t σ s j := by
  unfold oG gAll
  rw [spread_apply, gOf_apply]
  refine (Spec.sum_pick s (scAt t σ s) (fun k => lhsAt (grid0.coords t) σ.sc (ix2 s k)) (fun k => lhsAt_apply t σ s k)
    (fun p u => chP (j.val / 512) σ.pt (ix3 p u ⟨j.val % 512, Nat.mod_lt _ (by decide)⟩))).trans ?_
  unfold gRow Spec.total
  refine Finset.sum_congr rfl fun p _ => ?_
  rw [chP_apply _ (by omega)]
  congr 1
  exact at3 σ.pt rfl rfl (by show 512 * (j.val / 512) + j.val % 512 = j.val; omega)

theorem sums_apply (r : S32x16384.Idx → Elt Ideal .bf16) (ga : S1x16384.Idx → Elt Ideal .f32) (G : S32x16384.Idx → Elt Ideal .f32)
    (s : Fin 32) (l : Fin 128) (n : Nat) :
    (sums r ga G n).1 (ix2 s l) = ∑ k ∈ Finset.range n, ch 128 k r (ix2 s l) * ch 128 k r (ix2 s l)
    ∧ (sums r ga G n).2 (ix2 s l)
      = ∑ k ∈ Finset.range n, ch 128 k G (ix2 s l) * ch 128 k ga (ix2 0 l) * ch 128 k r (ix2 s l) := by
  induction n with
  | zero => exact ⟨zero32_apply s l, zero32_apply s l⟩
  | succ n ih =>
    rw [Finset.sum_range_succ, Finset.sum_range_succ, ← ih.1, ← ih.2]
    exact ⟨msqOf_apply _ _ s l, cdotOf_apply _ _ _ _ s l⟩

theorem sum_sq (s : Fin 32) :
    (∑ l : Fin 128, (sums σ.r σ.ga (oG (grid0.coords t) σ) 128).1 (ix2 s l)) = ∑ j, rRow σ s j * rRow σ s j := by
  rw [← Spec.sum_chunks]
  refine Finset.sum_congr rfl fun l _ => ?_
  rw [(sums_apply σ.r σ.ga _ s l 128).1, Finset.sum_range]
  refine Finset.sum_congr rfl fun k _ => ?_
  rw [ch_apply σ.r s l (by omega)]
  rfl

theorem sum_dot (s : Fin 32) :
    (∑ l : Fin 128, (sums σ.r σ.ga (oG (grid0.coords t) σ) 128).2 (ix2 s l)) = ∑ j, gRow t σ s j * yRow σ j * rRow σ s j := by
  rw [← Spec.sum_chunks]
  refine Finset.sum_congr rfl fun l _ => ?_
  rw [(sums_apply σ.r σ.ga _ s l 128).2, Finset.sum_range]
  refine Finset.sum_congr rfl fun k _ => ?_
  rw [ch_apply σ.r s l (by omega), ch_apply σ.ga 0 l (by omega), ch_apply (oG (grid0.coords t) σ) s l (by omega), oG_apply]
  rfl

theorem oK1_apply (s : Fin 32) (l : Fin 128) : oK1 (grid0.coords t) σ (ix2 s l) = Spec.rstd (rRow σ s) := by
  unfold oK1
  rw [k1Of_apply, sum_sq, ← Spec.div_len]
  rfl

theorem oK2_apply (s : Fin 32) (l : Fin 128) : oK2 (grid0.coords t) σ (ix2 s l)
    = Spec.rstd (rRow σ s) * Spec.rstd (rRow σ s) * Spec.rstd (rRow σ s) * Spec.corr (gRow t σ s) (rRow σ s) (yRow σ) := by
  unfold oK2
  rw [k2Of_apply, sum_dot, ← Spec.div_len]
  have h := oK1_apply t σ s l
  unfold oK1 at h
  rw [h]
  rfl

/-- The gradient of the point's row `s`. -/
def dRow (s : Fin 32) (j : Fin 16384) : EReal := Spec.grad (gRow t σ s) (rRow σ s) (yRow σ) (zRow σ s) j

theorem oDh_apply (s : Fin 32) (j : Fin 16384) (h : j.val % 128 < 128) :
    oDh (grid0.coords t) σ (j.val / 128) (ix2 s ⟨j.val % 128, h⟩) = dRow t σ s j := by
  unfold oDh dhc
  rw [dhOf_apply, oK1_apply, oK2_apply, ch_at σ.r, ch_at σ.ga, ch_at σ.gr, ch_at (oG (grid0.coords t) σ), oG_apply]
  unfold dRow Spec.grad
  rw [mul_assoc (rRow σ s j)]
  rfl

theorem oGx_apply (s : Fin 32) (j : Fin 16384) : oGx (grid0.coords t) σ (ix2 s j) = dRow t σ s j := by
  unfold oGx
  rw [spread_apply, gxOf_apply]
  exact oDh_apply t σ s j _

theorem amx_le (X : S32x16384.Idx → Elt Ideal .bf16) (s : Fin 32) (l : Fin 128) (c : EReal) (n : Nat) :
    amx X n (ix2 s l) ≤ c ↔ 0 ≤ c ∧ ∀ k < n, max (ch 128 k X (ix2 s l)) (-ch 128 k X (ix2 s l)) ≤ c := by
  induction n with
  | zero =>
    have e : amx X 0 (ix2 s l) = (0 : EReal) := (zero16_apply s l).trans (by simp [Ideal.ofBits, Ideal.ieee])
    rw [e]
    exact ⟨fun h => ⟨h, fun k hk => absurd hk (Nat.not_lt_zero k)⟩, fun h => h.1⟩
  | succ n ih =>
    have e : amx X (n + 1) (ix2 s l) = max (amx X n (ix2 s l)) (max (ch 128 n X (ix2 s l)) (-ch 128 n X (ix2 s l))) :=
      amaxOf_apply _ _ _
    rw [e, max_le_iff, ih]
    constructor
    · rintro ⟨⟨h0, h⟩, hn⟩
      refine ⟨h0, fun k hk => ?_⟩
      rcases Nat.lt_succ_iff_lt_or_eq.mp hk with h1 | rfl
      · exact h k h1
      · exact hn
    · rintro ⟨h0, h⟩
      exact ⟨⟨h0, fun k hk => h k (Nat.lt_succ_of_lt hk)⟩, h n (Nat.lt_succ_self n)⟩

theorem amax_row (X : S32x16384.Idx → Elt Ideal .bf16) (s : Fin 32) :
    (Finset.univ.fold max (Ideal.ofBits .f32 0xFF800000#32) fun l : Fin 128 => amx X 128 (ix2 s l))
      = Finset.univ.fold max ⊥ fun j : Fin 16384 => max (X (ix2 s j) : EReal) (-X (ix2 s j)) := by
  rw [Spec.bot32]
  refine eq_of_forall_ge_iff fun c => ?_
  rw [Finset.fold_max_le, Finset.fold_max_le]
  refine and_congr_right fun _ => ?_
  constructor
  · intro h j _
    have h1 := ((amx_le X s ⟨j.val % 128, Nat.mod_lt _ (by decide)⟩ c 128).mp (h _ (Finset.mem_univ _))).2 (j.val / 128) (by omega)
    rw [ch_at] at h1
    exact h1
  · intro h l _
    refine (amx_le X s l c 128).mpr ⟨(Spec.abs_nonneg _).trans (h 0 (Finset.mem_univ _)), fun k hk => ?_⟩
    rw [ch_apply X s l (by omega)]
    exact h _ (Finset.mem_univ _)

theorem ratio_apply (s : Fin 32) (l : Fin 128) : qOf (amx (oGx (grid0.coords t) σ) 128) (ix2 s l) = Spec.ratio (dRow t σ s) := by
  rw [qOf_apply, amax_row]
  simp only [oGx_apply]
  rfl

theorem oScale_apply (s : Fin 32) (l : Fin 128) :
    scaleOf (F := Ideal) (oE (grid0.coords t) σ) (ix2 s l) = Spec.scale (dRow t σ s) := by
  unfold oE
  rw [scale_apply, ratio_apply]
  rfl

theorem oInv_apply (s : Fin 32) (l : Fin 128) :
    invOf (F := Ideal) (oE (grid0.coords t) σ) (ix2 s l) = Ideal.div 1 (Spec.scale (dRow t σ s)) := by
  unfold oE
  rw [inv_apply, ratio_apply]
  rfl

theorem code_eq (x i d c : EReal) (h1 : x = d) (h2 : i = c) :
    min (Ideal.ofBits .bf16 0x4760#16) (max (Ideal.ofBits .bf16 0xC760#16) (x * i))
      = min (Ideal.ofBits .f32 0x47600000#32) (max (Ideal.ofBits .f32 0xC7600000#32) (d * c)) := by
  rw [h1, h2, Spec.max16, Spec.min16]

theorem oCd_apply (s : Fin 32) (j : Fin 16384) : oCd (grid0.coords t) σ (ix2 s j) = Spec.code (dRow t σ s) j := by
  unfold oCd
  rw [spread_apply]
  refine (codeOf_apply _ _ _).trans ?_
  unfold Spec.code
  exact code_eq _ _ _ _ ((gxOf_apply _ _).trans (oDh_apply t σ s j _)) (oInv_apply t σ s _)

theorem add_sum_congr {n : Nat} (a : EReal) (f g : Fin n → EReal) (h : ∀ k, f k = g k) : a + ∑ k, f k = a + ∑ k, g k := by
  rw [Finset.sum_congr rfl fun k _ => h k]

theorem oAg_apply (a : Fin 8) (j : Fin 16384) : oAg (grid0.coords t) σ (ix2 a j) = acc0 (grid0.coords t) σ.ag (ix2 a j)
    + ∑ k : Fin 4, gRow t σ ⟨k.val * 8 + a.val, by omega⟩ j * rRow σ ⟨k.val * 8 + a.val, by omega⟩ j
      * Spec.rstd (rRow σ ⟨k.val * 8 + a.val, by omega⟩) := by
  unfold oAg
  rw [spread_apply, accOf_apply, ch_at]
  refine add_sum_congr _ _ _ fun k => ?_
  rw [dgtOf_apply, ch_at, ch_at, oK1_apply, oG_apply]
  rfl

theorem oAb_apply (a : Fin 8) (j : Fin 16384) : oAb (grid0.coords t) σ (ix2 a j) = acc0 (grid0.coords t) σ.ab (ix2 a j)
    + ∑ k : Fin 4, dRow t σ ⟨k.val * 8 + a.val, by omega⟩ j := by
  unfold oAb
  rw [spread_apply, accOf_apply, ch_at]
  exact add_sum_congr _ _ _ fun k => oDh_apply t σ _ j _

end

end Cert.KernelIdeal.Str
-- ==== Proof.Blocks.lean ====
module

public import proofs.«01_k».proof.Proof.Point
public import Idealize.ShloMosaic.Lib.Pipeline.ValueKit
public import Idealize.ShloMosaic.Lib.Pipeline.ArrRel

@[expose] public section

/-! The kernel's blocks, read out of its arguments. -/

set_option maxRecDepth 16384

noncomputable section

namespace Cert.KernelIdeal.Str

open Idealize.ShloMosaic Idealize.ShloMosaic.TcCoe Idealize.ShloMosaic.Tactic
open Cert.KernelIdeal.Gen

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ win0_9.index t = ![0, 0] :=
  (by decide +kernel : ∀ t : Fin grid0.N, _)

/-- The arguments. -/
abbrev aP : S8x2x384x16384.Idx → Elt Ideal .fp8e5m2 := m ((c : Thread nD τ).loc main_arg0)
abbrev aS : S8x2x384.Idx → Elt Ideal .f32 := m ((c : Thread nD τ).loc main_arg1)
abbrev aR : S2x384x16384.Idx → Elt Ideal .bf16 := m ((c : Thread nD τ).loc main_arg2)
abbrev aY : S16384.Idx → Elt Ideal .f32 := m ((c : Thread nD τ).loc main_arg3)
abbrev aZ : S2x384x16384.Idx → Elt Ideal .bf16 := m ((c : Thread nD τ).loc main_arg4)

theorem iblk0 (t : Fin cfg0.N) (p : Fin 8) (s : Fin 32) (j : Fin 16384) (b : Fin 2) (l : Fin 384) (hb : b.val * 384 + l.val = 32 * t.val + s.val) :
    (iblk m c 0 t : S8x32x16384.Idx → Elt Ideal .fp8e5m2) (ix3 p s j) = aP m c (ix4 p b l j) := by
  have ht := t_lt t
  blk_simp [iblk]
  entry_read
  pointwise
  blk_ext [idx t]

theorem iblk1 (t : Fin cfg0.N) : (iblk m c 1 t : S8x2x384.Idx → Elt Ideal .f32) = aS m c := by
  blk_ext! [iblk, V, idx t]

theorem iblk2 (t : Fin cfg0.N) (s : Fin 32) (j : Fin 16384) (b : Fin 2) (l : Fin 384) (hb : b.val * 384 + l.val = 32 * t.val + s.val) :
    (iblk m c 2 t : S32x16384.Idx → Elt Ideal .bf16) (ix2 s j) = aR m c (ix3 b l j) := by
  have ht := t_lt t
  blk_simp [iblk]
  entry_read
  pointwise
  blk_ext [idx t]

theorem iblk3 (t : Fin cfg0.N) (j : Fin 16384) :
    (iblk m c 3 t : S1x16384.Idx → Elt Ideal .f32) (ix2 0 j) = aY m c (ix1 j) := by
  have ht := t_lt t
  blk_simp [iblk]
  entry_read
  pointwise
  blk_ext [idx t]

theorem iblk4 (t : Fin cfg0.N) (s : Fin 32) (j : Fin 16384) (b : Fin 2) (l : Fin 384) (hb : b.val * 384 + l.val = 32 * t.val + s.val) :
    (iblk m c 4 t : S32x16384.Idx → Elt Ideal .bf16) (ix2 s j) = aZ m c (ix3 b l j) := by
  have ht := t_lt t
  blk_simp [iblk]
  entry_read
  pointwise
  blk_ext [idx t]

section
variable (t : Fin cfg0.N) (u v : S8x16384.Idx → Elt Ideal .f32) (s : Fin 32) (i : Fin 768) (hi : i.val = 32 * t.val + s.val)

include hi in
theorem gRow_eq : gRow t (inSt m c t u v) s = Spec.totAt (aP m c) (aS m c) i := by
  funext j
  unfold gRow Spec.totAt scAt
  have e1 : (fun p => (inSt m c t u v).pt (ix3 p s j)) = fun p => aP m c (ix4 p ⟨i.val / 384, by omega⟩ ⟨i.val % 384, by omega⟩ j) := by
    funext p
    exact iblk0 m c t p s j _ _ (by simp only []; omega)
  have e2 : (fun p : Fin 8 => (inSt m c t u v).sc (ix3 p ⟨t.val / 12, by have := t_lt t; omega⟩ ⟨32 * (t.val % 12) + s.val, by omega⟩))
      = fun p => aS m c (ix3 p ⟨i.val / 384, by omega⟩ ⟨i.val % 384, by omega⟩) := by
    funext p
    refine (congrFun (iblk1 m c t) _).trans ?_
    exact at3 (aS m c) rfl (by simp only []; omega) (by simp only []; omega)
  rw [e1]
  exact congrArg (Spec.total _) e2

include hi in
theorem rRow_eq : rRow (inSt m c t u v) s = Spec.rowAt (aR m c) i := by
  funext j
  exact iblk2 m c t s j _ _ (by simp only []; omega)

include hi in
theorem zRow_eq : zRow (inSt m c t u v) s = Spec.rowAt (aZ m c) i := by
  funext j
  exact iblk4 m c t s j _ _ (by simp only []; omega)

theorem yRow_eq : yRow (inSt m c t u v) = fun j => aY m c (ix1 j) := by
  funext j
  exact iblk3 m c t j

include hi in
theorem dRow_eq : dRow t (inSt m c t u v) s = Spec.gradAt (aP m c) (aS m c) (aR m c) (aY m c) (aZ m c) i := by
  funext j
  unfold dRow Spec.gradAt
  rw [gRow_eq m c t u v s i hi, rRow_eq m c t u v s i hi, zRow_eq m c t u v s i hi, yRow_eq]

end

/-! ## The accumulators -/

/-- A function of the tokens, at a number. -/
def ext (f : Fin 768 → EReal) (n : Nat) : EReal := if h : n < 768 then f ⟨n, h⟩ else 0

theorem acc0_apply (t : Fin cfg0.N) (X : S8x16384.Idx → Elt Ideal .f32) (a : Fin 8) (j : Fin 16384)
    (h : t.val = 0 → X (ix2 a j) = (0 : EReal)) : acc0 (grid0.coords t) X (ix2 a j) = X (ix2 a j) := by
  unfold acc0
  by_cases h0 : t.val = 0
  · rw [if_pos ((isFirst_iff t).mpr h0), zero8_apply, h h0]
  · rw [if_neg fun hc => h0 ((isFirst_iff t).mp hc)]

theorem acc_apply (a : Fin 8) (j : Fin 16384) (n : Nat) (hn : n ≤ 24) :
    (acc m c n).1 (ix2 a j) = (∑ t ∈ Finset.range n, ∑ k : Fin 4,
      ext (fun i => Spec.gainAt (aP m c) (aS m c) (aR m c) i j) (32 * t + (k.val * 8 + a.val)) : EReal)
    ∧ (acc m c n).2 (ix2 a j) = (∑ t ∈ Finset.range n, ∑ k : Fin 4,
      ext (fun i => Spec.gradAt (aP m c) (aS m c) (aR m c) (aY m c) (aZ m c) i j) (32 * t + (k.val * 8 + a.val)) : EReal) := by
  induction n with
  | zero => exact ⟨zero8_apply a j, zero8_apply a j⟩
  | succ n ih =>
    obtain ⟨i1, i2⟩ := ih (by omega)
    have hN : n < cfg0.N := Nat.lt_of_lt_of_eq (by omega) N_0.symm
    have e := acc_succ m c ⟨n, hN⟩
    rw [Finset.sum_range_succ, Finset.sum_range_succ, ← i1, ← i2]
    have z1 : ∀ a j, (acc m c 0).1 (ix2 a j) = (0 : EReal) := fun a j => zero8_apply a j
    have z2 : ∀ a j, (acc m c 0).2 (ix2 a j) = (0 : EReal) := fun a j => zero8_apply a j
    have f1 := oAg_apply ⟨n, hN⟩ (inAt m c ⟨n, hN⟩) a j
    have f2 := oAb_apply ⟨n, hN⟩ (inAt m c ⟨n, hN⟩) a j
    have q1 : acc0 (grid0.coords ⟨n, hN⟩) (inAt m c ⟨n, hN⟩).ag (ix2 a j) = (acc m c n).1 (ix2 a j) :=
      acc0_apply ⟨n, hN⟩ (acc m c n).1 a j fun h => by
        have h' : n = 0 := h
        subst h'; exact z1 a j
    have q2 : acc0 (grid0.coords ⟨n, hN⟩) (inAt m c ⟨n, hN⟩).ab (ix2 a j) = (acc m c n).2 (ix2 a j) :=
      acc0_apply ⟨n, hN⟩ (acc m c n).2 a j fun h => by
        have h' : n = 0 := h
        subst h'; exact z2 a j
    rw [q1] at f1
    rw [q2] at f2
    constructor
    · refine (congrFun (congrArg Prod.fst e) (ix2 a j)).trans (f1.trans (add_sum_congr _ _ _ fun k => ?_))
      have hk : 32 * n + (k.val * 8 + a.val) < 768 := by omega
      unfold ext
      rw [dif_pos hk]
      unfold Spec.gainAt inAt
      rw [gRow_eq m c ⟨n, hN⟩ _ _ _ ⟨_, hk⟩ rfl, rRow_eq m c ⟨n, hN⟩ _ _ _ ⟨_, hk⟩ rfl]
    · refine (congrFun (congrArg Prod.snd e) (ix2 a j)).trans (f2.trans (add_sum_congr _ _ _ fun k => ?_))
      have hk : 32 * n + (k.val * 8 + a.val) < 768 := by omega
      unfold ext
      rw [dif_pos hk]
      unfold inAt
      rw [dRow_eq m c ⟨n, hN⟩ _ _ _ ⟨_, hk⟩ rfl]

theorem sum_ext (f : Fin 768 → EReal) :
    (∑ a : Fin 8, ∑ t ∈ Finset.range 24, ∑ k : Fin 4, ext f (32 * t + (k.val * 8 + a.val))) = ∑ i, f i := by
  rw [← Spec.sum_rows f]
  refine Finset.sum_congr rfl fun a _ => ?_
  rw [Finset.sum_range]
  refine Finset.sum_congr rfl fun t _ => Finset.sum_congr rfl fun k _ => ?_
  unfold ext
  rw [dif_pos (by omega)]

theorem colOf_acc (j : Fin 16384) :
    colOf (acc m c 24).1 (ix2 0 j) = ∑ i, Spec.gainAt (aP m c) (aS m c) (aR m c) i j
    ∧ colOf (acc m c 24).2 (ix2 0 j) = ∑ i, Spec.gradAt (aP m c) (aS m c) (aR m c) (aY m c) (aZ m c) i j := by
  constructor
  · rw [colOf_apply, ← sum_ext]
    exact Finset.sum_congr rfl fun a _ => (acc_apply m c a j 24 (by omega)).1
  · rw [colOf_apply, ← sum_ext]
    exact Finset.sum_congr rfl fun a _ => (acc_apply m c a j 24 (by omega)).2

end Cert.KernelIdeal.Str
-- ==== Proof.Final.lean ====
module

public import proofs.«01_k».proof.Proof.Blocks

@[expose] public section

/-! What the kernel's arrays hold after the run, at the ideal instance. -/

set_option maxRecDepth 16384

noncomputable section

namespace Cert.KernelIdeal.Str

open Idealize.ShloMosaic Idealize.ShloMosaic.TcCoe Idealize.ShloMosaic.Tactic Idealize.SL.Sem
open Idealize.ShloMosaic.Pipeline (Dat RDat)
open Cert.KernelIdeal.Gen

variable (m : (ℓ : Loc nD τ sig) → Buf (Elt Ideal) ℓ) (c : Dev nD)

theorem scale_merge (t : Fin cfg0.N) (X : S2x384.Idx → Elt Ideal .f32) (h : (rdat m c).Leaves 9 t X) (b : Fin 2) (l : Fin 384)
    (hle : (b.val * 384 + l.val) / 32 ≤ t.val) :
    X (ix2 b l) = Spec.scaleAt (aP m c) (aS m c) (aR m c) (aY m c) (aZ m c) (b.val * 384 + l.val) (by omega) := by
  have ht := t_lt t
  obtain ⟨n, hn⟩ : ∃ n, n = t.val := ⟨_, rfl⟩
  induction n generalizing t X with
  | zero =>
    obtain ⟨Y, hY, hX⟩ := h
    have e : X = mergeOf (mineOf (grid0.coords t)) (rowOf (scaleOf (F := Ideal) (oE (grid0.coords t) (inAt m c t)))) Y := hX
    rw [e, mergeOf_apply, if_pos ((mineOf_apply t b l).mpr (by omega)), rowOf_apply, oScale_apply]
    unfold inAt Spec.scaleAt
    rw [dRow_eq m c t _ _ _ ⟨b.val * 384 + l.val, by omega⟩ (by simp only []; omega)]
  | succ n ih =>
    obtain ⟨Y, hY, hX⟩ := h
    have e : X = mergeOf (mineOf (grid0.coords t)) (rowOf (scaleOf (F := Ideal) (oE (grid0.coords t) (inAt m c t)))) Y := hX
    rw [e, mergeOf_apply]
    by_cases hm : (b.val * 384 + l.val) / 32 = t.val
    · rw [if_pos ((mineOf_apply t b l).mpr hm), rowOf_apply, oScale_apply]
      unfold inAt Spec.scaleAt
      rw [dRow_eq m c t _ _ _ ⟨b.val * 384 + l.val, by omega⟩ (by simp only []; omega)]
    · rw [if_neg fun hc => hm ((mineOf_apply t b l).mp hc)]
      have hf : (cfg0.win 9).fetch t = false := rfl
      rcases ((rdat m c).finds_of_pos hf (by omega) Y).mp hY with h1 | h1
      · have := (flush0_9 _).mp h1
        simp only [] at this
        omega
      · exact ih _ Y h1 (by simp only []; omega) (by simp only []; omega) (by simp only []; omega)

/-- The last point of the grid. -/
abbrev t0_23 : Fin cfg0.N := ⟨23, Nat.lt_of_lt_of_eq (by decide) N_0.symm⟩

theorem gx_point (t : Fin cfg0.N) (y : S32x16384.Idx) : oGx (grid0.coords t) (inAt m c t) y
    = Spec.outGx (aP m c) (aS m c) (aR m c) (aY m c) (aZ m c) ((win0_5.blk t).view.emb y) := by
  have ht := t_lt t
  idx_vars y
  have e : (win0_5.blk t).view.emb (ix2 y0 y1) = (ix2 (⟨32 * t.val + y0.val, by omega⟩ : Fin 768) y1 : S768x16384.Idx) := by blk_ext [idx t]
  rw [oGx_apply, e]
  unfold inAt
  rw [dRow_eq m c t _ _ y0 ⟨32 * t.val + y0.val, by omega⟩ rfl]
  rfl

theorem cd_point (t : Fin cfg0.N) (y : S32x16384.Idx) : oCd (grid0.coords t) (inAt m c t) y
    = Spec.outCd (aP m c) (aS m c) (aR m c) (aY m c) (aZ m c) ((win0_8.blk t).view.emb y) := by
  have ht := t_lt t
  idx_vars y
  have e : (win0_8.blk t).view.emb (ix2 y0 y1) = (ix2 (⟨32 * t.val + y0.val, by omega⟩ : Fin 768) y1 : S768x16384.Idx) := by blk_ext [idx t]
  rw [oCd_apply, e]
  unfold inAt
  rw [dRow_eq m c t _ _ y0 ⟨32 * t.val + y0.val, by omega⟩ rfl]
  rfl

theorem dg_point (j : S1x16384.Idx) : colOf (acc m c 24).1 j = Spec.outDg (aP m c) (aS m c) (aR m c) j := by
  idx_vars j
  obtain rfl : j0 = 0 := Subsingleton.elim _ _
  exact (colOf_acc m c j1).1

theorem db_point (j : S1x16384.Idx) : colOf (acc m c 24).2 j = Spec.outDb (aP m c) (aS m c) (aR m c) (aY m c) (aZ m c) j := by
  idx_vars j
  obtain rfl : j0 = 0 := Subsingleton.elim _ _
  exact (colOf_acc m c j1).2

theorem sl_point (X : S2x384.Idx → Elt Ideal .f32) (t : Fin cfg0.N) (ht : t.val = 23) (h : (rdat m c).Leaves 9 t X) (j : S2x384.Idx) :
    X j = Spec.outSl (aP m c) (aS m c) (aR m c) (aY m c) (aZ m c) j := by
  idx_vars j
  exact scale_merge m c t X h j0 j1 (by omega)

section
variable {r : PUnit × MemSt nD τ sig (Elt Ideal)} (h : RDat.FramePost (cfgs 0) (rdat m) (V m) r)

include h in
theorem final : r.2.mem ((c : Thread nD τ).loc main_v4_0) = Spec.outGx (aP m c) (aS m c) (aR m c) (aY m c) (aZ m c)
    ∧ r.2.mem ((c : Thread nD τ).loc main_v4_1) = Spec.outDg (aP m c) (aS m c) (aR m c)
    ∧ r.2.mem ((c : Thread nD τ).loc main_v4_2) = Spec.outDb (aP m c) (aS m c) (aR m c) (aY m c) (aZ m c)
    ∧ r.2.mem ((c : Thread nD τ).loc main_v4_3) = Spec.outCd (aP m c) (aS m c) (aR m c) (aY m c) (aZ m c)
    ∧ r.2.mem ((c : Thread nD τ).loc main_v4_4) = Spec.outSl (aP m c) (aS m c) (aR m c) (aY m c) (aZ m c) := by
  obtain ⟨after, hL, hA⟩ := h.exists_exact c
  refine ⟨?_, ?_, ?_, ?_, ?_⟩
  · refine (hA 5).trans (Dat.arrAt_eq_of_covers _ 5 _ (by decide +kernel) fun t hf y => ?_)
    obtain ⟨Y, -, hX⟩ := hL 5 t hf
    have e : after 5 t = oGx (grid0.coords t) (inAt m c t) := hX
    blk_simp
    rw [RDat.withAfter_after, e]
    exact gx_point m c t y
  · refine (hA 6).trans (Dat.arrAt_eq_of_after_last _ 6 t0_23 (by decide +kernel) _ fun j => ?_)
    obtain ⟨Y, -, hX⟩ := hL 6 t0_23 ((flush0_6 _).mpr rfl)
    have e : after 6 t0_23 = colOf (acc m c 24).1 := hX rfl
    blk_simp
    rw [RDat.withAfter_after]
    exact (congrFun e j).trans (dg_point m c j)
  · refine (hA 7).trans (Dat.arrAt_eq_of_after_last _ 7 t0_23 (by decide +kernel) _ fun j => ?_)
    obtain ⟨Y, -, hX⟩ := hL 7 t0_23 ((flush0_7 _).mpr rfl)
    have e : after 7 t0_23 = colOf (acc m c 24).2 := hX rfl
    blk_simp
    rw [RDat.withAfter_after]
    exact (congrFun e j).trans (db_point m c j)
  · refine (hA 8).trans (Dat.arrAt_eq_of_covers _ 8 _ (by decide +kernel) fun t hf y => ?_)
    obtain ⟨Y, -, hX⟩ := hL 8 t hf
    have e : after 8 t = oCd (grid0.coords t) (inAt m c t) := hX
    blk_simp
    rw [RDat.withAfter_after, e]
    exact cd_point m c t y
  · refine (hA 9).trans (Dat.arrAt_eq_of_after_last _ 9 t0_23 (by decide +kernel) _ fun j => ?_)
    have hX := hL 9 t0_23 ((flush0_9 _).mpr rfl)
    blk_simp
    rw [RDat.withAfter_after]
    exact sl_point m c (after 9 t0_23) t0_23 rfl hX j

end

end Cert.KernelIdeal.Str
-- ==== Proof.RefPoint.lean ====
module

public import proofs.«01_k».proof.Proof.Gen.ReferenceIdeal.Frame
public import proofs.«01_k».proof.Proof.Spec
public import Idealize.ShloMosaic.Lib.Pointwise

@[expose] public section

/-! The reference's values read at an index, at the ideal instance. -/

set_option maxRecDepth 16384

noncomputable section

namespace Cert.ReferenceIdeal.Str

open Idealize.ShloMosaic Idealize.ShloMosaic.Tactic
open Cert.ReferenceIdeal.Gen

local notation "V" => Vec Ideal

section
variable (x0 : V S8x768x16384 .fp8e5m2) (x1 : V S8x768x1 .f32) (x2 : V S768x16384 .bf16) (x3 : V S1x16384 .f32) (x4 : V S768x16384 .bf16)

/-- The rows of a token. -/
def gRow (i : Fin 768) (j : Fin 16384) : EReal := Spec.total (fun p => x0 (ix3 p i j)) (fun p => x1 (ix3 p i 0))
def row (x : S768x16384.Idx → EReal) (i : Fin 768) (j : Fin 16384) : EReal := x (ix2 i j)
def dRow (i : Fin 768) : Fin 16384 → EReal := Spec.grad (gRow x0 x1 i) (row x2 i) (fun j => x3 (ix2 0 j)) (row x4 i)

theorem pay2_apply (i : Fin 768) (j : Fin 16384) : k0_pay2 x2 (ix2 i j) = row x2 i j := by
  pointwise [k0_pay2]
  rfl

theorem pay3_apply (i : Fin 768) (j : Fin 16384) : k0_pay3 x0 x1 (ix2 i j) = gRow x0 x1 i j := by
  unfold gRow Spec.total
  pointwise [k0_pay3]

theorem pay4_apply (i : Fin 768) : k0_pay4 x2 (ix2 i 0) = Spec.rstd (row x2 i) := by
  unfold Spec.rstd Spec.len Spec.eps row
  pointwise [k0_pay4, k0_pay2]

theorem pay5_apply (i : Fin 768) (j : Fin 16384) : k0_pay5 x2 x0 x1 x3 x4 (ix2 i j) = dRow x0 x1 x2 x3 x4 i j := by
  unfold dRow Spec.grad Spec.corr Spec.len
  simp only [← pay3_apply, ← pay4_apply]
  unfold row
  pointwise [k0_pay5, k0_pay2]

theorem pay7_apply (u v : FVec Ideal S768x16384 .f32) (w : FVec Ideal S768x1 .f32) (j : Fin 16384) :
    k0_pay7 u v w (ix2 0 j) = ∑ i : Fin 768, v (ix2 i j) * u (ix2 i j) * w (ix2 i 0) := by
  pointwise [k0_pay7]

theorem pay8_apply (u : FVec Ideal S768x16384 .f32) (j : Fin 16384) : k0_pay8 u (ix2 0 j) = ∑ i : Fin 768, u (ix2 i j) := by
  pointwise [k0_pay8]

theorem pay1_apply (u : FVec Ideal S768x16384 .f32) (w : FVec Ideal S768x1 .f32) (z : Ideal .f32) (i : Fin 768) (j : Fin 16384) :
    k0_pay1 u w z (ix2 i j) = min (Ideal.ofBits .f32 0x47600000#32) (max (Ideal.ofBits .f32 0xC7600000#32) (u (ix2 i j) * Ideal.div z (w (ix2 i 0)))) := by
  pointwise [k0_pay1]

end

/-- A row's greatest entry. -/
def maxRow (u : FVec Ideal S768x16384 .f32) : FVec Ideal S768 .f32 :=
  multiReduction .maximumf [1] S768 u 0xFF800000#32 reduces_S768x16384_S768 (.inl rfl) rfl

/-- A row's greatest magnitude over the largest code, the powers of two, the greatest one not above, and the scale. -/
def ratios (u : FVec Ideal S768x16384 .f32) : FVec Ideal S768x1 .f32 :=
  mulf (shapeCast S768x1 (maxRow u) shapeCasts_S768_S768x1)
    (broadcast S768x1 (Scalar.ofBits .f32 0x37924925#32))

def powers : FVec Ideal S1x239 .f32 :=
  exp2 (sitofp .f32 (subi (iota .tc S1x239 32 [1] iota_S1x239_d1_w32) (broadcast S1x239 126#32)))

def belows (q : FVec Ideal S768x1 .f32) (p : FVec Ideal S1x239 .f32) : FVec Ideal S768x1 .f32 :=
  shapeCast S768x1 (multiReduction .maximumf [1] S768
    (select (cmpf .oge (broadcastTo S768x239 q broadcasts_S768x1_S768x239) (broadcastTo S768x239 p broadcasts_S1x239_S768x239))
      (broadcastTo S768x239 (shapeCast S1x239 p shapeCasts_S1x239_S1x239) broadcasts_S1x239_S768x239)
      (broadcast S768x239 (Scalar.ofBits .f32 0x00000000#32)))
    0xFF800000#32 reduces_S768x239_S768 (.inl rfl) rfl) shapeCasts_S768_S768x1

def scales (q b : FVec Ideal S768x1 .f32) : FVec Ideal S768x1 .f32 :=
  select (ori (cmpf .oeq b (broadcast S768x1 (Scalar.ofBits .f32 0x00000000#32))) (cmpf .oeq q (broadcast S768x1 (Scalar.ofBits .f32 0x7F800000#32))))
    (broadcast S768x1 (Scalar.ofBits .f32 0x3F800000#32)) (mulf (broadcast S768x1 (Scalar.ofBits .f32 0x40000000#32)) b)

theorem pay10_eq (u : FVec Ideal S768x16384 .bf16) : k0_pay10 u = scales (ratios (absf (k0_pay9 u))) (belows (ratios (absf (k0_pay9 u))) powers) := rfl

theorem max_row (a n : Nat) (u : FVec Ideal ⟨2, ![a, n]⟩ .f32) (h : Shape.Reduces ⟨2, ![a, n]⟩ [1] ⟨1, ![a]⟩) (hφ : FKind.Formats .f32)
    (hacc : (0xFF800000#32 : BitVec 32) = FKind.maximumf.neutral .f32 hφ) (i : Fin a) :
    multiReduction .maximumf [1] ⟨1, ![a]⟩ u 0xFF800000#32 h hφ hacc (ix1 i)
      = Finset.univ.fold max (Ideal.ofBits .f32 0xFF800000#32) fun j : Fin n => u (ix2 i j) := by
  rw [Ideal.multiReduction_maximumf_single]
  refine congrArg (fun f : Fin n → EReal => Finset.univ.fold max (Ideal.ofBits .f32 0xFF800000#32) f) (funext fun j => ?_)
  refine congrArg u (funext fun a => Fin.ext ?_)
  match a with
  | ⟨0, _⟩ => rfl
  | ⟨1, _⟩ => rfl

theorem maxRow_apply (u : FVec Ideal S768x16384 .f32) (i : Fin 768) :
    maxRow u (ix1 i) = Finset.univ.fold max (Ideal.ofBits .f32 0xFF800000#32) fun j => u (ix2 i j) :=
  max_row 768 16384 u reduces_S768x16384_S768 (.inl rfl) rfl i

theorem cast_col (w : FVec Ideal S768 .f32) (i : Fin 768) : shapeCast S768x1 w shapeCasts_S768_S768x1 (ix2 i 0) = w (ix1 i) := by
  pointwise

theorem ratios_at (u : FVec Ideal S768x16384 .f32) (i : Fin 768) :
    ratios u (ix2 i 0) = maxRow u (ix1 i) * Ideal.ofBits .f32 0x37924925#32 := by
  unfold ratios
  generalize maxRow u = w
  rw [mulf_apply, cast_col]
  rfl

theorem ratios_apply (u : FVec Ideal S768x16384 .f32) (i : Fin 768) :
    ratios u (ix2 i 0) = (Finset.univ.fold max (Ideal.ofBits .f32 0xFF800000#32) fun j => u (ix2 i j)) * Ideal.ofBits .f32 0x37924925#32 := by
  rw [ratios_at, maxRow_apply]

theorem abs_apply (u : FVec Ideal S768x16384 .bf16) (i : Fin 768) (j : Fin 16384) :
    absf (k0_pay9 u) (ix2 i j) = max (u (ix2 i j)) (-u (ix2 i j)) := rfl

theorem ratio_apply (u : FVec Ideal S768x16384 .bf16) (i : Fin 768) :
    ratios (absf (k0_pay9 u)) (ix2 i 0) = Spec.ratio (fun j => u (ix2 i j)) := by
  rw [ratios_apply, Spec.bot32]
  exact congrArg (fun f : Fin 16384 → EReal => Finset.univ.fold max ⊥ f * Spec.step) (funext fun j => abs_apply u i j)

theorem sub_word (k : Nat) (hk : k < 239) : (IntOp.subi (BitVec.ofNat 32 k) 126#32).toInt = (k : ℤ) - 126 := by
  have : ∀ k : Fin 239, (IntOp.subi (BitVec.ofNat 32 k.val) 126#32).toInt = (k.val : ℤ) - 126 := by decide
  exact this ⟨k, hk⟩

theorem powers_apply (k : Fin 239) : powers (ix2 0 k) = Scale.pb (k.val + 1) := by
  rw [← Scale.exp2_eq k.val k.isLt, ← sub_word k.val k.isLt]
  unfold powers
  show Ideal.exp2 ((((IntOp.subi ((iota .tc S1x239 32 [1] iota_S1x239_d1_w32) (ix2 0 k)) 126#32).toInt : ℝ) : EReal)) = _
  rw [iota_single_apply]
  rfl

theorem belows_apply (q : FVec Ideal S768x1 .f32) (p : FVec Ideal S1x239 .f32) (i : Fin 768) :
    belows q p (ix2 i 0) = Finset.univ.fold max ⊥ fun k : Fin 239 => if p (ix2 0 k) ≤ q (ix2 i 0) then p (ix2 0 k) else 0 := by
  rw [← Spec.bot32]
  pointwise [belows]

theorem or_select {p q : Prop} [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

theorem two32 : Ideal.ofBits .f32 0x40000000#32 = 2 := by
  simp [Ideal.ofBits, Ideal.ieee]
  norm_num
  rw [← EReal.coe_mul]
  norm_num
  rfl

theorem top32 : Ideal.ofBits .f32 0x7F800000#32 = ⊤ := by
  simp [Ideal.ofBits, Ideal.ieee]

theorem scales_apply (q b : FVec Ideal S768x1 .f32) (i : Fin 768) :
    scales q b (ix2 i 0) = if b (ix2 i 0) = 0 ∨ q (ix2 i 0) = ⊤ then 1 else 2 * b (ix2 i 0) := by
  pointwise [scales]
  rw [or_select, two32, top32]

theorem pay10_apply (u : FVec Ideal S768x16384 .bf16) (i : Fin 768) : k0_pay10 u (ix2 i 0) = Spec.scale (fun j => u (ix2 i j)) := by
  rw [pay10_eq, scales_apply, belows_apply, ratio_apply]
  simp only [powers_apply]
  rfl

end Cert.ReferenceIdeal.Str
-- ==== Proof.RefVal.lean ====
module

public import proofs.«01_k».proof.Proof.RefPoint
public import Idealize.ShloMosaic.Lib.Pipeline.ValueKit

@[expose] public section

/-! What the reference's arrays hold after the run, at the ideal instance. -/

set_option maxRecDepth 16384

noncomputable section

namespace Cert.ReferenceIdeal.Str

open Idealize.ShloMosaic Idealize.ShloMosaic.TcCoe Idealize.ShloMosaic.Tactic
open Cert.ReferenceIdeal.Gen

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The arguments. -/
abbrev aP : S8x2x384x16384.Idx → Elt Ideal .fp8e5m2 := m ((c : Thread nD τ).loc main_arg0)
abbrev aS : S8x2x384.Idx → Elt Ideal .f32 := m ((c : Thread nD τ).loc main_arg1)
abbrev aR : S2x384x16384.Idx → Elt Ideal .bf16 := m ((c : Thread nD τ).loc main_arg2)
abbrev aY : S16384.Idx → Elt Ideal .f32 := m ((c : Thread nD τ).loc main_arg3)
abbrev aZ : S2x384x16384.Idx → Elt Ideal .bf16 := m ((c : Thread nD τ).loc main_arg4)

/-- The blocks. -/
abbrev b0 : S8x768x16384.Idx → Elt Ideal .fp8e5m2 := iblk m c 0 t0_0
abbrev b1 : S8x768x1.Idx → Elt Ideal .f32 := iblk m c 1 t0_0
abbrev b2 : S768x16384.Idx → Elt Ideal .bf16 := iblk m c 2 t0_0
abbrev b3 : S1x16384.Idx → Elt Ideal .f32 := iblk m c 3 t0_0
abbrev b4 : S768x16384.Idx → Elt Ideal .bf16 := iblk m c 4 t0_0

theorem v0_eq : V m c main_v0 = shapeCast S8x768x16384 (aP m c) shapeCasts_S8x2x384x16384_S8x768x16384 := by
  unfold V V0
  simp only [List.flatten_cons, List.flatten_nil, List.append_nil]
  entry_read
  rfl

theorem v1_eq : V m c main_v1 = shapeCast S8x768x1 (aS m c) shapeCasts_S8x2x384_S8x768x1 := by
  unfold V V0
  simp only [List.flatten_cons, List.flatten_nil, List.append_nil]
  entry_read
  rfl

theorem v2_eq : V m c main_v2 = shapeCast S768x16384 (aR m c) shapeCasts_S2x384x16384_S768x16384 := by
  unfold V V0
  simp only [List.flatten_cons, List.flatten_nil, List.append_nil]
  entry_read
  rfl

theorem v3_eq : V m c main_v3 = shapeCast S1x16384 (aY m c) shapeCasts_S16384_S1x16384 := by
  unfold V V0
  simp only [List.flatten_cons, List.flatten_nil, List.append_nil]
  entry_read
  rfl

theorem v4_eq : V m c main_v4 = shapeCast S768x16384 (aZ m c) shapeCasts_S2x384x16384_S768x16384 := by
  unfold V V0
  simp only [List.flatten_cons, List.flatten_nil, List.append_nil]
  entry_read
  rfl

theorem iblk0 (p : Fin 8) (i : Fin 768) (j : Fin 16384) :
    b0 m c (ix3 p i j) = aP m c (ix4 p ⟨i.val / 384, by omega⟩ ⟨i.val % 384, by omega⟩ j) := by
  blk_simp [iblk]
  rw [v0_eq]
  pointwise
  blk_ext [idx t0_0]

theorem iblk1 (p : Fin 8) (i : Fin 768) :
    b1 m c (ix3 p i 0) = aS m c (ix3 p ⟨i.val / 384, by omega⟩ ⟨i.val % 384, by omega⟩) := by
  blk_simp [iblk]
  rw [v1_eq]
  pointwise
  blk_ext [idx t0_0]

theorem iblk2 (i : Fin 768) (j : Fin 16384) :
    b2 m c (ix2 i j) = aR m c (ix3 ⟨i.val / 384, by omega⟩ ⟨i.val % 384, by omega⟩ j) := by
  blk_simp [iblk]
  rw [v2_eq]
  pointwise
  blk_ext [idx t0_0]

theorem iblk3 (j : Fin 16384) : b3 m c (ix2 0 j) = aY m c (ix1 j) := by
  blk_simp [iblk]
  rw [v3_eq]
  pointwise
  blk_ext [idx t0_0]

theorem iblk4 (i : Fin 768) (j : Fin 16384) :
    b4 m c (ix2 i j) = aZ m c (ix3 ⟨i.val / 384, by omega⟩ ⟨i.val % 384, by omega⟩ j) := by
  blk_simp [iblk]
  rw [v4_eq]
  pointwise
  blk_ext [idx t0_0]

theorem gRow_eq (i : Fin 768) : gRow (b0 m c) (b1 m c) i = Spec.totAt (aP m c) (aS m c) i := by
  funext j
  unfold gRow Spec.totAt
  simp only [iblk0, iblk1]

theorem rRow_eq (i : Fin 768) : row (b2 m c) i = Spec.rowAt (aR m c) i := by
  funext j
  exact iblk2 m c i j

theorem zRow_eq (i : Fin 768) : row (b4 m c) i = Spec.rowAt (aZ m c) i := by
  funext j
  exact iblk4 m c i j

theorem dRow_eq (i : Fin 768) : dRow (b0 m c) (b1 m c) (b2 m c) (b3 m c) (b4 m c) i
    = Spec.gradAt (aP m c) (aS m c) (aR m c) (aY m c) (aZ m c) i := by
  funext j
  unfold dRow Spec.gradAt
  rw [gRow_eq, rRow_eq, zRow_eq]
  simp only [iblk3]

theorem pay_gx (i : Fin 768) (j : Fin 16384) : k0_pay6 (b2 m c) (b0 m c) (b1 m c) (b3 m c) (b4 m c) (ix2 i j)
    = Spec.gradAt (aP m c) (aS m c) (aR m c) (aY m c) (aZ m c) i j :=
  (pay5_apply (b0 m c) (b1 m c) (b2 m c) (b3 m c) (b4 m c) i j).trans (congrFun (dRow_eq m c i) j)

theorem pay_sl (i : Fin 768) : k0_pay10 (k0_pay6 (b2 m c) (b0 m c) (b1 m c) (b3 m c) (b4 m c)) (ix2 i 0)
    = Spec.scale (Spec.gradAt (aP m c) (aS m c) (aR m c) (aY m c) (aZ m c) i) := by
  rw [pay10_apply]
  exact congrArg Spec.scale (funext fun j => pay_gx m c i j)

theorem one32 : Ideal.ofBits .f32 0x3F800000#32 = 1 := by
  simp [Ideal.ofBits, Ideal.ieee]
  norm_num
  rw [← EReal.coe_mul]
  norm_num

theorem pay_cd (i : Fin 768) (j : Fin 16384) :
    k0_pay1 (k0_pay9 (k0_pay6 (b2 m c) (b0 m c) (b1 m c) (b3 m c) (b4 m c)))
      (k0_pay10 (k0_pay6 (b2 m c) (b0 m c) (b1 m c) (b3 m c) (b4 m c))) (Scalar.ofBits .f32 0x3F800000#32) (ix2 i j)
    = Spec.code (Spec.gradAt (aP m c) (aS m c) (aR m c) (aY m c) (aZ m c) i) j := by
  rw [pay1_apply, pay_sl]
  have e : k0_pay9 (k0_pay6 (b2 m c) (b0 m c) (b1 m c) (b3 m c) (b4 m c)) (ix2 i j)
      = Spec.gradAt (aP m c) (aS m c) (aR m c) (aY m c) (aZ m c) i j := pay_gx m c i j
  have o : (Scalar.ofBits .f32 0x3F800000#32 : Ideal .f32) = (1 : EReal) := one32
  rw [e, o]
  rfl

theorem pay_dg (j : Fin 16384) : k0_pay7 (k0_pay2 (b2 m c)) (k0_pay3 (b0 m c) (b1 m c)) (k0_pay4 (b2 m c)) (ix2 0 j)
    = ∑ i, Spec.gainAt (aP m c) (aS m c) (aR m c) i j := by
  rw [pay7_apply]
  refine Finset.sum_congr rfl fun i _ => ?_
  rw [pay3_apply, pay2_apply, pay4_apply, gRow_eq, rRow_eq]
  rfl

theorem pay_db (j : Fin 16384) : k0_pay8 (k0_pay5 (b2 m c) (b0 m c) (b1 m c) (b3 m c) (b4 m c)) (ix2 0 j)
    = ∑ i, Spec.gradAt (aP m c) (aS m c) (aR m c) (aY m c) (aZ m c) i j := by
  rw [pay8_apply]
  exact Finset.sum_congr rfl fun i _ => pay_gx m c i j

theorem pay11_eq (x0 : Vec Ideal S8x768x16384 .fp8e5m2) (x1 : Vec Ideal S8x768x1 .f32) (x2 : Vec Ideal S768x16384 .bf16) (x3 : Vec Ideal S1x16384 .f32)
    (x4 : Vec Ideal S768x16384 .bf16) : k0_pay11 x0 x1 x2 x3 x4 = k0_pay6 x2 x0 x1 x3 x4 := by
  unfold k0_pay11
  frame_out

theorem final5 : (dats m 0 c).arrAt 5 (cfgs 0).N = Spec.outGx (aP m c) (aS m c) (aR m c) (aY m c) (aZ m c) := by
  refine (dats m 0 c).arrAt_eq_of_after_last 5 t0_0 (by decide +kernel) _ fun j => ?_
  blk_simp
  rw [after0_5]
  frame_out
  rw [pay11_eq]
  idx_vars j
  exact pay_gx m c j0 j1

theorem dg_point (j : S1x16384.Idx) : k0_pay7 (k0_pay2 (b2 m c)) (k0_pay3 (b0 m c) (b1 m c)) (k0_pay4 (b2 m c)) j
    = Spec.outDg (aP m c) (aS m c) (aR m c) j := by
  idx_vars j
  obtain rfl : j0 = 0 := Subsingleton.elim _ _
  exact pay_dg m c j1

theorem db_point (j : S1x16384.Idx) : k0_pay8 (k0_pay5 (b2 m c) (b0 m c) (b1 m c) (b3 m c) (b4 m c)) j
    = Spec.outDb (aP m c) (aS m c) (aR m c) (aY m c) (aZ m c) j := by
  idx_vars j
  obtain rfl : j0 = 0 := Subsingleton.elim _ _
  exact pay_db m c j1

theorem final6 : (dats m 0 c).arrAt 6 (cfgs 0).N = Spec.outDg (aP m c) (aS m c) (aR m c) := by
  refine (dats m 0 c).arrAt_eq_of_after_last 6 t0_0 (by decide +kernel) _ fun j => ?_
  blk_simp
  rw [after0_6]
  frame_out
  exact dg_point m c j

theorem final7 : (dats m 0 c).arrAt 7 (cfgs 0).N = Spec.outDb (aP m c) (aS m c) (aR m c) (aY m c) (aZ m c) := by
  refine (dats m 0 c).arrAt_eq_of_after_last 7 t0_0 (by decide +kernel) _ fun j => ?_
  blk_simp
  rw [after0_7]
  frame_out
  exact db_point m c j

theorem final8 : (dats m 0 c).arrAt 8 (cfgs 0).N = Spec.outCd (aP m c) (aS m c) (aR m c) (aY m c) (aZ m c) := by
  refine (dats m 0 c).arrAt_eq_of_after_last 8 t0_0 (by decide +kernel) _ fun j => ?_
  blk_simp
  rw [after0_8]
  frame_out
  unfold k0_pay12
  rw [pay11_eq]
  idx_vars j
  exact pay_cd m c j0 j1

/-- The scales, one column. -/
def colSl : S768x1.Idx → EReal := fun i => Spec.scaleAt (aP m c) (aS m c) (aR m c) (aY m c) (aZ m c) (i 0).val (i 0).isLt

theorem sl_point (j : S768x1.Idx) : k0_pay10 (k0_pay6 (b2 m c) (b0 m c) (b1 m c) (b3 m c) (b4 m c)) j = colSl m c j := by
  idx_vars j
  obtain rfl : j1 = 0 := Subsingleton.elim _ _
  exact pay_sl m c j0

theorem final9 : (dats m 0 c).arrAt 9 (cfgs 0).N = colSl m c := by
  refine (dats m 0 c).arrAt_eq_of_after_last 9 t0_0 (by decide +kernel) _ fun j => ?_
  blk_simp
  rw [after0_9]
  frame_out
  unfold k0_pay12
  rw [pay11_eq]
  exact sl_point m c j

theorem sl_cast : shapeCast S2x384 (colSl m c) shapeCasts_S768x1_S2x384 = Spec.outSl (aP m c) (aS m c) (aR m c) (aY m c) (aZ m c) := by
  funext j
  idx_vars j
  pointwise
  rfl

section
variable {r : PUnit × MemSt nD τ sig (Elt Ideal)} (h : Pipeline.FramePost cfgs (dats m) 0 (Pipeline.afterTail₀ cfgs (dats m) 0 (V0 m) [hostOps1]) r)

include h in
theorem final : r.2.mem ((c : Thread nD τ).loc main_v5_0) = Spec.outGx (aP m c) (aS m c) (aR m c) (aY m c) (aZ m c)
    ∧ r.2.mem ((c : Thread nD τ).loc main_v5_1) = Spec.outDg (aP m c) (aS m c) (aR m c)
    ∧ r.2.mem ((c : Thread nD τ).loc main_v5_2) = Spec.outDb (aP m c) (aS m c) (aR m c) (aY m c) (aZ m c)
    ∧ r.2.mem ((c : Thread nD τ).loc main_v5_3) = Spec.outCd (aP m c) (aS m c) (aR m c) (aY m c) (aZ m c)
    ∧ r.2.mem ((c : Thread nD τ).loc main_v6) = Spec.outSl (aP m c) (aS m c) (aR m c) (aY m c) (aZ m c) := by
  refine ⟨(h.out_eq c 5).trans (final5 m c), (h.out_eq c 6).trans (final6 m c), (h.out_eq c 7).trans (final7 m c),
    (h.out_eq c 8).trans (final8 m c), (h.rest_eq c main_v6 (by decide)).trans ?_⟩
  unfold Pipeline.afterTail₀
  simp only [List.flatten_cons, List.flatten_nil, List.append_nil]
  entry_read
  refine (congrArg (fun x : S768x1.Idx → EReal => shapeCast S2x384 x shapeCasts_S768x1_S2x384) ?_).trans (sl_cast m c)
  exact (Pipeline.withArrays_arr spec0 (by decide) c (V0 m c) _ 9).trans (final9 m c)

end

end Cert.ReferenceIdeal.Str
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Bitwise
public import proofs.«01_k».proof.Proof.Final
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- Both programs end with the same results, over the extended reals. -/
theorem algebraic [Cert.KernelIdeal.Facts] [Cert.ReferenceIdeal.Facts] : Cert.algebraic_KernelIdeal_ReferenceIdeal := by
  intro m g m' g' _ hargs
  refine ⟨fun c => Cert.Spec.outGx (KernelIdeal.Str.aP m c) (KernelIdeal.Str.aS m c) (KernelIdeal.Str.aR m c) (KernelIdeal.Str.aY m c) (KernelIdeal.Str.aZ m c),
    fun c => Cert.Spec.outDg (KernelIdeal.Str.aP m c) (KernelIdeal.Str.aS m c) (KernelIdeal.Str.aR m c),
    fun c => Cert.Spec.outDb (KernelIdeal.Str.aP m c) (KernelIdeal.Str.aS m c) (KernelIdeal.Str.aR m c) (KernelIdeal.Str.aY m c) (KernelIdeal.Str.aZ m c),
    fun c => Cert.Spec.outCd (KernelIdeal.Str.aP m c) (KernelIdeal.Str.aS m c) (KernelIdeal.Str.aR m c) (KernelIdeal.Str.aY m c) (KernelIdeal.Str.aZ m c),
    fun c => Cert.Spec.outSl (KernelIdeal.Str.aP m c) (KernelIdeal.Str.aS m c) (KernelIdeal.Str.aR m c) (KernelIdeal.Str.aY m c) (KernelIdeal.Str.aZ m c), ?_, ?_⟩
  · refine (θ_run _ _ _).mono (fun r h c => ?_) (KernelIdeal.Str.run_main (F := Ideal) m g)
    obtain ⟨h0, h1, h2, h3, h4⟩ := KernelIdeal.Str.final m c h.1
    exact ⟨h0, h1, h2, h3, h4, KernelIdeal.Str.args_of m h.1 c⟩
  · refine (θ_run _ _ _).mono (fun r h c => ?_) (θ_run_and (ReferenceIdeal.Gen.run_main (F := Ideal) m' g') (ReferenceIdeal.Gen.unchanged (F := Ideal) m' g'))
    obtain ⟨e0, e1, e2, e3, e4⟩ := hargs c
    obtain ⟨h0, h1, h2, h3, h4⟩ := ReferenceIdeal.Str.final m' c h.1
    unfold ReferenceIdeal.Str.aP ReferenceIdeal.Str.aS ReferenceIdeal.Str.aR at h0 h1 h2 h3 h4
    unfold ReferenceIdeal.Str.aY ReferenceIdeal.Str.aZ at h0 h2 h3 h4
    rw [e0, e1, e2, e3, e4] at h0 h2 h3 h4
    rw [e0, e1, e2] at h1
    exact ⟨h0, h1, h2, h3, h4, h.2 c⟩

theorem claim : Cert.Claim := ⟨Cert.Kernel.Gen.facts, Cert.KernelIdeal.Gen.facts, Cert.ReferenceIdeal.Gen.facts,
  Cert.KernelIdeal.Str.quiescent, fun m g _ => Cert.KernelIdeal.Str.frame m g, fun m g _ => Cert.ReferenceIdeal.Gen.frame m g, trivial, algebraic⟩

end Cert.Proof

end
